-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk_KernelIdeal [hPre_finite_qk_KernelIdeal : Cert.Pre_finite_qk_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk_ReferenceIdeal [hPre_finite_qk_ReferenceIdeal : Cert.Pre_finite_qk_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk_KernelIdeal [hKernelIdeal : Cert.KernelIdeal.Facts] [hPre_finite_qk_KernelIdeal : Cert.Pre_finite_qk_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk_ReferenceIdeal [hReferenceIdeal : Cert.ReferenceIdeal.Facts] [hPre_finite_qk_ReferenceIdeal : Cert.Pre_finite_qk_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_qk_KernelIdeal [hKernelIdeal : Cert.KernelIdeal.Facts] [hReferenceIdeal : Cert.ReferenceIdeal.Facts] [hPre_finite_qk_KernelIdeal : Cert.Pre_finite_qk_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨4, ![4, 4096, 8, 128]⟩ ⟨4, ![4, 8192, 8, 128]⟩ (Layout.meshBlock [2, 2, 2] ![[], [2], [], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨4, ![4, 4096, 8, 128]⟩ ⟨4, ![4, 8192, 8, 128]⟩ (Layout.meshBlock [2, 2, 2] ![[], [2], [], []] c) (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v16) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_qk_KernelIdeal : Cert.Pre_finite_qk_KernelIdeal.Facts) (hPre_finite_qk_ReferenceIdeal : Cert.Pre_finite_qk_ReferenceIdeal.Facts),
    quiescent_Kernel (hKernel := hKernel)
    ∧ quiescent_KernelIdeal (hKernelIdeal := hKernelIdeal)
    ∧ quiescent_KernelIdeal_pre_finite_qk_KernelIdeal (hKernelIdeal := hKernelIdeal) (hPre_finite_qk_KernelIdeal := hPre_finite_qk_KernelIdeal)
    ∧ quiescent_ReferenceIdeal (hReferenceIdeal := hReferenceIdeal)
    ∧ quiescent_ReferenceIdeal_pre_finite_qk_ReferenceIdeal (hReferenceIdeal := hReferenceIdeal) (hPre_finite_qk_ReferenceIdeal := hPre_finite_qk_ReferenceIdeal)
    ∧ preserves_Kernel_KernelIdeal
    ∧ algebraic_KernelIdeal_ReferenceIdeal_pre_finite_qk_KernelIdeal (hKernelIdeal := hKernelIdeal) (hReferenceIdeal := hReferenceIdeal) (hPre_finite_qk_KernelIdeal := hPre_finite_qk_KernelIdeal)
-- ==== Pre_finite_qk_KernelIdeal.lean ====
abbrev S4x32x8x128 : Shape := ⟨4, ![4, 32, 8, 128]⟩
abbrev S4x4096x8x128 : Shape := ⟨4, ![4, 4096, 8, 128]⟩
abbrev S_ : Shape := ⟨0, ![]⟩

class Facts : Prop where
  bcast_S_S4x32x8x128 : S_.BroadcastsInDim S4x32x8x128 (![] : Fin 0 → Fin S4x32x8x128.rank)
  reducesTo_S4x32x8x128_S_d0_1_2_3 : S4x32x8x128.ReducesTo [0, 1, 2, 3] S_
  h_S_ : 0 < S_.numel
  bcast_S_S4x4096x8x128 : S_.BroadcastsInDim S4x4096x8x128 (![] : Fin 0 → Fin S4x4096x8x128.rank)
  reducesTo_S4x4096x8x128_S_d0_1_2_3 : S4x4096x8x128.ReducesTo [0, 1, 2, 3] S_

variable [Facts]

def fn {F : FTy → Type} [FloatOps F] (main_arg0 : FVec F S4x32x8x128 .bf16) (main_arg1 : FVec F S4x4096x8x128 .bf16) (main_arg2 : FVec F S4x4096x8x128 .bf16) : IVec S_ 1 :=
  let main_v0 : FVec F S4x32x8x128 .bf16 := Host.absf main_arg0
  let main_cst : FVec F S_ .bf16 := constant S_ .bf16 0x7F80#16
  let main_v1 : FVec F S4x32x8x128 .bf16 := broadcastInDim S4x32x8x128 ![] bcast_S_S4x32x8x128 main_cst
  let main_v2 : IVec S4x32x8x128 1 := cmpf .olt main_v0 main_v1
  let main_c : IVec S_ 1 := constantI S_ 1 1#1
  let main_v3 : IVec S_ 1 := (fun x v => Host.reduce IntOp.andi x v reducesTo_S4x32x8x128_S_d0_1_2_3 h_S_) main_v2 main_c
  let main_v4 : FVec F S4x4096x8x128 .bf16 := Host.absf main_arg1
  let main_cst_0 : FVec F S_ .bf16 := constant S_ .bf16 0x7F80#16
  let main_v5 : FVec F S4x4096x8x128 .bf16 := broadcastInDim S4x4096x8x128 ![] bcast_S_S4x4096x8x128 main_cst_0
  let main_v6 : IVec S4x4096x8x128 1 := cmpf .olt main_v4 main_v5
  let main_c_1 : IVec S_ 1 := constantI S_ 1 1#1
  let main_v7 : IVec S_ 1 := (fun x v => Host.reduce IntOp.andi x v reducesTo_S4x4096x8x128_S_d0_1_2_3 h_S_) main_v6 main_c_1
  let main_v8 : IVec S_ 1 := andi main_v3 main_v7
  main_v8
-- ==== Pre_finite_qk_ReferenceIdeal.lean ====
abbrev S4x32x8x128 : Shape := ⟨4, ![4, 32, 8, 128]⟩
abbrev S4x8192x8x128 : Shape := ⟨4, ![4, 8192, 8, 128]⟩
abbrev S_ : Shape := ⟨0, ![]⟩

class Facts : Prop where
  bcast_S_S4x32x8x128 : S_.BroadcastsInDim S4x32x8x128 (![] : Fin 0 → Fin S4x32x8x128.rank)
  reducesTo_S4x32x8x128_S_d0_1_2_3 : S4x32x8x128.ReducesTo [0, 1, 2, 3] S_
  h_S_ : 0 < S_.numel
  bcast_S_S4x8192x8x128 : S_.BroadcastsInDim S4x8192x8x128 (![] : Fin 0 → Fin S4x8192x8x128.rank)
  reducesTo_S4x8192x8x128_S_d0_1_2_3 : S4x8192x8x128.ReducesTo [0, 1, 2, 3] S_

variable [Facts]

def fn {F : FTy → Type} [FloatOps F] (main_arg0 : FVec F S4x32x8x128 .bf16) (main_arg1 : FVec F S4x8192x8x128 .bf16) (main_arg2 : FVec F S4x8192x8x128 .bf16) : IVec S_ 1 :=
  let main_v0 : FVec F S4x32x8x128 .bf16 := Host.absf main_arg0
  let main_cst : FVec F S_ .bf16 := constant S_ .bf16 0x7F80#16
  let main_v1 : FVec F S4x32x8x128 .bf16 := broadcastInDim S4x32x8x128 ![] bcast_S_S4x32x8x128 main_cst
  let main_v2 : IVec S4x32x8x128 1 := cmpf .olt main_v0 main_v1
  let main_c : IVec S_ 1 := constantI S_ 1 1#1
  let main_v3 : IVec S_ 1 := (fun x v => Host.reduce IntOp.andi x v reducesTo_S4x32x8x128_S_d0_1_2_3 h_S_) main_v2 main_c
  let main_v4 : FVec F S4x8192x8x128 .bf16 := Host.absf main_arg1
  let main_cst_0 : FVec F S_ .bf16 := constant S_ .bf16 0x7F80#16
  let main_v5 : FVec F S4x8192x8x128 .bf16 := broadcastInDim S4x8192x8x128 ![] bcast_S_S4x8192x8x128 main_cst_0
  let main_v6 : IVec S4x8192x8x128 1 := cmpf .olt main_v4 main_v5
  let main_c_1 : IVec S_ 1 := constantI S_ 1 1#1
  let main_v7 : IVec S_ 1 := (fun x v => Host.reduce IntOp.andi x v reducesTo_S4x8192x8x128_S_d0_1_2_3 h_S_) main_v6 main_c_1
  let main_v8 : IVec S_ 1 := andi main_v3 main_v7
  main_v8
-- ==== Kernel.lean ====
abbrev S4x32x8x128 : Shape := ⟨4, ![4, 32, 8, 128]⟩
abbrev S4x4096x8x128 : Shape := ⟨4, ![4, 4096, 8, 128]⟩
abbrev S32x32x128 : Shape := ⟨3, ![32, 32, 128]⟩
abbrev S1x32x8x128 : Shape := ⟨4, ![1, 32, 8, 128]⟩
abbrev S1x1024x8x128 : Shape := ⟨4, ![1, 1024, 8, 128]⟩
abbrev S2x128x128 : Shape := ⟨3, ![2, 128, 128]⟩
abbrev S2x128x1 : Shape := ⟨3, ![2, 128, 1]⟩
abbrev S2x32x32x128 : Shape := ⟨4, ![2, 32, 32, 128]⟩
abbrev S2x32x32x1 : Shape := ⟨4, ![2, 32, 32, 1]⟩
abbrev S2x4 : Shape := ⟨2, ![2, 4]⟩
abbrev S_ : Shape := ⟨0, ![]⟩
abbrev S128x4096 : Shape := ⟨2, ![128, 4096]⟩
abbrev S1x32x4x128 : Shape := ⟨4, ![1, 32, 4, 128]⟩
abbrev S32x4x128 : Shape := ⟨3, ![32, 4, 128]⟩
abbrev S128x128 : Shape := ⟨2, ![128, 128]⟩
abbrev S1x1024x4x128 : Shape := ⟨4, ![1, 1024, 4, 128]⟩
abbrev S1024x4x128 : Shape := ⟨3, ![1024, 4, 128]⟩
abbrev S4096x128 : Shape := ⟨2, ![4096, 128]⟩
abbrev S128 : Shape := ⟨1, ![128]⟩
abbrev S128x1 : Shape := ⟨2, ![128, 1]⟩
abbrev S1x128x128 : Shape := ⟨3, ![1, 128, 128]⟩
abbrev S1x128x1 : Shape := ⟨3, ![1, 128, 1]⟩
abbrev S1x32x128 : Shape := ⟨3, ![1, 32, 128]⟩
abbrev S32x128 : Shape := ⟨2, ![32, 128]⟩
abbrev S1x1x32x128 : Shape := ⟨4, ![1, 1, 32, 128]⟩
abbrev S1x32x1 : Shape := ⟨3, ![1, 32, 1]⟩
abbrev S32x1 : Shape := ⟨2, ![32, 1]⟩
abbrev S1x1x32x1 : Shape := ⟨4, ![1, 1, 32, 1]⟩
abbrev S1x1 : Shape := ⟨2, ![1, 1]⟩
abbrev S1x8x32x128 : Shape := ⟨4, ![1, 8, 32, 128]⟩
abbrev S8x32x128 : Shape := ⟨3, ![8, 32, 128]⟩
abbrev S1x8x32x1 : Shape := ⟨4, ![1, 8, 32, 1]⟩
abbrev S8x32x1 : Shape := ⟨3, ![8, 32, 1]⟩
abbrev S1x32x32x128 : Shape := ⟨4, ![1, 32, 32, 128]⟩
abbrev S1x32x32x1 : Shape := ⟨4, ![1, 32, 32, 1]⟩
abbrev S32x32x1 : Shape := ⟨3, ![32, 32, 1]⟩
abbrev S4x8x32x128 : Shape := ⟨4, ![4, 8, 32, 128]⟩

abbrev nBuf : Space → Nat
  | .hbm => 6
  | .vmem => 11
  | .smem => 0
  | _ => 0

abbrev bufTy : (tb : Table) → Fin (tcTables nBuf tb) → BufTy
  | .hbm, ⟨0, _⟩ => ⟨S4x32x8x128, .bf16⟩
  | .hbm, ⟨1, _⟩ => ⟨S4x4096x8x128, .bf16⟩
  | .hbm, ⟨2, _⟩ => ⟨S4x4096x8x128, .bf16⟩
  | .hbm, ⟨3, _⟩ => ⟨S32x32x128, .f32⟩
  | .hbm, ⟨4, _⟩ => ⟨S4x8x32x128, .f32⟩
  | .hbm, ⟨5, _⟩ => ⟨S4x32x8x128, .f32⟩
  | .local _ .vmem, ⟨0, _⟩ => ⟨S1x32x8x128, .bf16⟩
  | .local _ .vmem, ⟨1, _⟩ => ⟨S1x32x8x128, .bf16⟩
  | .local _ .vmem, ⟨2, _⟩ => ⟨S1x1024x8x128, .bf16⟩
  | .local _ .vmem, ⟨3, _⟩ => ⟨S1x1024x8x128, .bf16⟩
  | .local _ .vmem, ⟨4, _⟩ => ⟨S1x1024x8x128, .bf16⟩
  | .local _ .vmem, ⟨5, _⟩ => ⟨S1x1024x8x128, .bf16⟩
  | .local _ .vmem, ⟨6, _⟩ => ⟨S32x32x128, .f32⟩
  | .local _ .vmem, ⟨7, _⟩ => ⟨S2x128x128, .f32⟩
  | .local _ .vmem, ⟨8, _⟩ => ⟨S2x128x1, .f32⟩
  | .local _ .vmem, ⟨9, _⟩ => ⟨S2x32x32x128, .bf16⟩
  | .local _ .vmem, ⟨10, _⟩ => ⟨S2x32x32x1, .f32⟩
  | _, _ => ⟨S4x32x8x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  (ofTc nBuf bufTy 1 23 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev barrier0 : Sem sig := 0

abbrev nD : Nat := 8
abbrev τ : Topo := Topo.v7x

variable {F : FTy → Type} [FloatOps F]

abbrev grid0 : Pipeline.Grid := ⟨2, ![4, 4], ![false, false]⟩

def k0_cond1 (i : grid0.Coords) : BitVec 1 :=
  let arg0 : BitVec 32 := BitVec.ofNat 32 (i 0).val
  let c0_i32 : BitVec 32 := 0#32
  let v10 : BitVec 1 := Scalar.cmpi .eq arg0 c0_i32
  let arg1 : BitVec 32 := BitVec.ofNat 32 (i 1).val
  let c0_i32_4 : BitVec 32 := 0#32
  let v11 : BitVec 1 := Scalar.cmpi .eq arg1 c0_i32_4
  let v12 : BitVec 1 := Scalar.andi v10 v11
  let v13 : BitVec 32 := Scalar.extui v12
  let c0_i32_5 : BitVec 32 := 0#32
  let v14 : BitVec 1 := Scalar.cmpi .ne v13 c0_i32_5
  v14

def k0_dev1 (d0 : Dev nD) : Nat :=
  let c0_i32_90 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_89 : BitVec 32 := 4#32
  let v142 : BitVec 32 := Scalar.muli v2 c4_i32_89
  let v143 : BitVec 32 := Scalar.addi c0_i32_90 v142
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_91 : BitVec 32 := 2#32
  let v144 : BitVec 32 := Scalar.muli v5 c2_i32_91
  let v145 : BitVec 32 := Scalar.addi v143 v144
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_92 : BitVec 32 := 1#32
  let v146 : BitVec 32 := Scalar.muli v9 c1_i32_92
  let v147 : BitVec 32 := Scalar.addi v145 v146
  v147.toNat
def k0_cond3 (i : grid0.Coords) : BitVec 1 :=
  let arg1 : BitVec 32 := BitVec.ofNat 32 (i 1).val
  let c3_i32 : BitVec 32 := 3#32
  let v116 : BitVec 1 := Scalar.cmpi .eq arg1 c3_i32
  let arg0 : BitVec 32 := BitVec.ofNat 32 (i 0).val
  let c0_i32_74 : BitVec 32 := 0#32
  let v117 : BitVec 1 := Scalar.cmpi .eq arg0 c0_i32_74
  let v118 : BitVec 1 := Scalar.andi v116 v117
  let v119 : BitVec 32 := Scalar.extui v118
  let c0_i32_75 : BitVec 32 := 0#32
  let v120 : BitVec 1 := Scalar.cmpi .ne v119 c0_i32_75
  v120

def k0_dev2 (d0 : Dev nD) : Nat :=
  let c0_i32_202 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_201 : BitVec 32 := 4#32
  let v229 : BitVec 32 := Scalar.muli v2 c4_i32_201
  let v230 : BitVec 32 := Scalar.addi c0_i32_202 v229
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_203 : BitVec 32 := 2#32
  let v231 : BitVec 32 := Scalar.muli v5 c2_i32_203
  let v232 : BitVec 32 := Scalar.addi v230 v231
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_204 : BitVec 32 := 1#32
  let v233 : BitVec 32 := Scalar.muli v9 c1_i32_204
  let v234 : BitVec 32 := Scalar.addi v232 v233
  v234.toNat
def k0_dev3 (d0 : Dev nD) : Nat :=
  let c0_i32_218 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_217 : BitVec 32 := 4#32
  let v243 : BitVec 32 := Scalar.muli v2 c4_i32_217
  let v244 : BitVec 32 := Scalar.addi c0_i32_218 v243
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_219 : BitVec 32 := 2#32
  let v245 : BitVec 32 := Scalar.muli v5 c2_i32_219
  let v246 : BitVec 32 := Scalar.addi v244 v245
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_220 : BitVec 32 := 1#32
  let v247 : BitVec 32 := Scalar.muli v9 c1_i32_220
  let v248 : BitVec 32 := Scalar.addi v246 v247
  v248.toNat
def k0_cond4 (i : grid0.Coords) : BitVec 1 :=
  let arg1 : BitVec 32 := BitVec.ofNat 32 (i 1).val
  let c3_i32_76 : BitVec 32 := 3#32
  let v121 : BitVec 1 := Scalar.cmpi .eq arg1 c3_i32_76
  let arg0 : BitVec 32 := BitVec.ofNat 32 (i 0).val
  let c1_i32_77 : BitVec 32 := 1#32
  let v122 : BitVec 1 := Scalar.cmpi .eq arg0 c1_i32_77
  let v123 : BitVec 1 := Scalar.andi v121 v122
  let v124 : BitVec 32 := Scalar.extui v123
  let c0_i32_78 : BitVec 32 := 0#32
  let v125 : BitVec 1 := Scalar.cmpi .ne v124 c0_i32_78
  v125

def k0_dev4 (d0 : Dev nD) : Nat :=
  let c0_i32_197 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_196 : BitVec 32 := 4#32
  let v229 : BitVec 32 := Scalar.muli v2 c4_i32_196
  let v230 : BitVec 32 := Scalar.addi c0_i32_197 v229
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_198 : BitVec 32 := 2#32
  let v231 : BitVec 32 := Scalar.muli v5 c2_i32_198
  let v232 : BitVec 32 := Scalar.addi v230 v231
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_199 : BitVec 32 := 1#32
  let v233 : BitVec 32 := Scalar.muli v9 c1_i32_199
  let v234 : BitVec 32 := Scalar.addi v232 v233
  v234.toNat
def k0_dev5 (d0 : Dev nD) : Nat :=
  let c0_i32_212 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_211 : BitVec 32 := 4#32
  let v243 : BitVec 32 := Scalar.muli v2 c4_i32_211
  let v244 : BitVec 32 := Scalar.addi c0_i32_212 v243
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_213 : BitVec 32 := 2#32
  let v245 : BitVec 32 := Scalar.muli v5 c2_i32_213
  let v246 : BitVec 32 := Scalar.addi v244 v245
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_214 : BitVec 32 := 1#32
  let v247 : BitVec 32 := Scalar.muli v9 c1_i32_214
  let v248 : BitVec 32 := Scalar.addi v246 v247
  v248.toNat
def k0_cond5 (i : grid0.Coords) : BitVec 1 :=
  let arg1 : BitVec 32 := BitVec.ofNat 32 (i 1).val
  let c3_i32_79 : BitVec 32 := 3#32
  let v126 : BitVec 1 := Scalar.cmpi .eq arg1 c3_i32_79
  let arg0 : BitVec 32 := BitVec.ofNat 32 (i 0).val
  let c2_i32_80 : BitVec 32 := 2#32
  let v127 : BitVec 1 := Scalar.cmpi .eq arg0 c2_i32_80
  let v128 : BitVec 1 := Scalar.andi v126 v127
  let v129 : BitVec 32 := Scalar.extui v128
  let c0_i32_81 : BitVec 32 := 0#32
  let v130 : BitVec 1 := Scalar.cmpi .ne v129 c0_i32_81
  v130

def k0_dev6 (d0 : Dev nD) : Nat :=
  let c0_i32_197 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_196 : BitVec 32 := 4#32
  let v229 : BitVec 32 := Scalar.muli v2 c4_i32_196
  let v230 : BitVec 32 := Scalar.addi c0_i32_197 v229
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_198 : BitVec 32 := 2#32
  let v231 : BitVec 32 := Scalar.muli v5 c2_i32_198
  let v232 : BitVec 32 := Scalar.addi v230 v231
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_199 : BitVec 32 := 1#32
  let v233 : BitVec 32 := Scalar.muli v9 c1_i32_199
  let v234 : BitVec 32 := Scalar.addi v232 v233
  v234.toNat
def k0_dev7 (d0 : Dev nD) : Nat :=
  let c0_i32_212 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_211 : BitVec 32 := 4#32
  let v243 : BitVec 32 := Scalar.muli v2 c4_i32_211
  let v244 : BitVec 32 := Scalar.addi c0_i32_212 v243
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_213 : BitVec 32 := 2#32
  let v245 : BitVec 32 := Scalar.muli v5 c2_i32_213
  let v246 : BitVec 32 := Scalar.addi v244 v245
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_214 : BitVec 32 := 1#32
  let v247 : BitVec 32 := Scalar.muli v9 c1_i32_214
  let v248 : BitVec 32 := Scalar.addi v246 v247
  v248.toNat
def k0_cond6 (i : grid0.Coords) : BitVec 1 :=
  let arg1 : BitVec 32 := BitVec.ofNat 32 (i 1).val
  let c3_i32_82 : BitVec 32 := 3#32
  let v131 : BitVec 1 := Scalar.cmpi .eq arg1 c3_i32_82
  let arg0 : BitVec 32 := BitVec.ofNat 32 (i 0).val
  let c3_i32_83 : BitVec 32 := 3#32
  let v132 : BitVec 1 := Scalar.cmpi .eq arg0 c3_i32_83
  let v133 : BitVec 1 := Scalar.andi v131 v132
  let v134 : BitVec 32 := Scalar.extui v133
  let c0_i32_84 : BitVec 32 := 0#32
  let v135 : BitVec 1 := Scalar.cmpi .ne v134 c0_i32_84
  v135

def k0_dev8 (d0 : Dev nD) : Nat :=
  let c0_i32_197 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_196 : BitVec 32 := 4#32
  let v229 : BitVec 32 := Scalar.muli v2 c4_i32_196
  let v230 : BitVec 32 := Scalar.addi c0_i32_197 v229
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_198 : BitVec 32 := 2#32
  let v231 : BitVec 32 := Scalar.muli v5 c2_i32_198
  let v232 : BitVec 32 := Scalar.addi v230 v231
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_199 : BitVec 32 := 1#32
  let v233 : BitVec 32 := Scalar.muli v9 c1_i32_199
  let v234 : BitVec 32 := Scalar.addi v232 v233
  v234.toNat
def k0_dev9 (d0 : Dev nD) : Nat :=
  let c0_i32_212 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_211 : BitVec 32 := 4#32
  let v243 : BitVec 32 := Scalar.muli v2 c4_i32_211
  let v244 : BitVec 32 := Scalar.addi c0_i32_212 v243
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_213 : BitVec 32 := 2#32
  let v245 : BitVec 32 := Scalar.muli v5 c2_i32_213
  let v246 : BitVec 32 := Scalar.addi v244 v245
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_214 : BitVec 32 := 1#32
  let v247 : BitVec 32 := Scalar.muli v9 c1_i32_214
  let v248 : BitVec 32 := Scalar.addi v246 v247
  v248.toNat
def k0_cond7 (i : grid0.Coords) : BitVec 1 :=
  let arg0 : BitVec 32 := BitVec.ofNat 32 (i 0).val
  let c3_i32_85 : BitVec 32 := 3#32
  let v136 : BitVec 1 := Scalar.cmpi .eq arg0 c3_i32_85
  let arg1 : BitVec 32 := BitVec.ofNat 32 (i 1).val
  let c3_i32_86 : BitVec 32 := 3#32
  let v137 : BitVec 1 := Scalar.cmpi .eq arg1 c3_i32_86
  let v138 : BitVec 1 := Scalar.andi v136 v137
  let v139 : BitVec 32 := Scalar.extui v138
  let c0_i32_87 : BitVec 32 := 0#32
  let v140 : BitVec 1 := Scalar.cmpi .ne v139 c0_i32_87
  v140

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1x32x8x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x8x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x8x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S32x32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]
-- ==== KernelIdeal.lean ====
variable {F : FTy → Type} [FloatOps F] [Named F]
def κ : String → Option EReal := fun
  | "mask" => some ⊥
  | _ => none
-- ==== ReferenceIdeal.lean ====
abbrev S4x32x8x128 : Shape := ⟨4, ![4, 32, 8, 128]⟩
abbrev S4x8192x8x128 : Shape := ⟨4, ![4, 8192, 8, 128]⟩
abbrev S4x8x32x8192 : Shape := ⟨4, ![4, 8, 32, 8192]⟩
abbrev S_ : Shape := ⟨0, ![]⟩
abbrev S4x8x32 : Shape := ⟨3, ![4, 8, 32]⟩
abbrev S4x8x32x1 : Shape := ⟨4, ![4, 8, 32, 1]⟩
abbrev S4x8x128x32 : Shape := ⟨4, ![4, 8, 128, 32]⟩

abbrev nBuf : Space → Nat
  | .hbm => 23
  | .vmem => 0
  | .smem => 0
  | _ => 0

abbrev bufTy : (tb : Table) → Fin (tcTables nBuf tb) → BufTy
  | .hbm, ⟨0, _⟩ => ⟨S4x32x8x128, .bf16⟩
  | .hbm, ⟨1, _⟩ => ⟨S4x8192x8x128, .bf16⟩
  | .hbm, ⟨2, _⟩ => ⟨S4x8192x8x128, .bf16⟩
  | .hbm, ⟨3, _⟩ => ⟨S4x32x8x128, .f32⟩
  | .hbm, ⟨4, _⟩ => ⟨S4x8192x8x128, .f32⟩
  | .hbm, ⟨5, _⟩ => ⟨S4x8192x8x128, .f32⟩
  | .hbm, ⟨6, _⟩ => ⟨S4x8x32x8192, .f32⟩
  | .hbm, ⟨7, _⟩ => ⟨S_, .f32⟩
  | .hbm, ⟨8, _⟩ => ⟨S4x8x32x8192, .f32⟩
  | .hbm, ⟨9, _⟩ => ⟨S4x8x32x8192, .f32⟩
  | .hbm, ⟨10, _⟩ => ⟨S_, .f32⟩
  | .hbm, ⟨11, _⟩ => ⟨S4x8x32, .f32⟩
  | .hbm, ⟨12, _⟩ => ⟨S4x8x32x1, .f32⟩
  | .hbm, ⟨13, _⟩ => ⟨S4x8x32x8192, .f32⟩
  | .hbm, ⟨14, _⟩ => ⟨S4x8x32x8192, .f32⟩
  | .hbm, ⟨15, _⟩ => ⟨S4x8x32x8192, .f32⟩
  | .hbm, ⟨16, _⟩ => ⟨S_, .f32⟩
  | .hbm, ⟨17, _⟩ => ⟨S4x8x32, .f32⟩
  | .hbm, ⟨18, _⟩ => ⟨S4x8x32x1, .f32⟩
  | .hbm, ⟨19, _⟩ => ⟨S4x8x32x8192, .f32⟩
  | .hbm, ⟨20, _⟩ => ⟨S4x8x32x8192, .f32⟩
  | .hbm, ⟨21, _⟩ => ⟨S4x8x128x32, .f32⟩
  | .hbm, ⟨22, _⟩ => ⟨S4x32x8x128, .f32⟩
  | _, _ => ⟨S4x32x8x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Proof.KernelIdeal.Regions.lean ====
/-
  The pieces of the kernel's two communication buffers, and the device a device talks to.

  `o_comm` (2×32×32×128, bf16) and `l_comm` (2×32×32×1, f32) have two slots. Slot 0 is written by the device itself, slot 1 by
  its peer. Of each slot, rows `8·b … 8·b+7` belong to batch entry `b`: one copy carries exactly these rows. So each buffer is
  cut into eight pieces, named by the slot and the batch entry.
-/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Regions
public import Idealize.ShloMosaic.Lib.Pipeline.RegionTalk
public import Idealize.ShloMosaic.Lib.Pipeline.FrameBody
public import Idealize.ShloMosaic.Lib.Pipeline.Value
public import Idealize.ShloMosaic.Lib.Rounds
public import Idealize.ShloMosaic.Lib.Exec
public import Idealize.ShloMosaic.Lib.Tactic

@[expose] public section

set_option maxRecDepth 16384

noncomputable section

namespace Cert.KernelIdeal.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

/-! ## The peer -/

/-- The device with the other coordinate on the mesh axis over which keys and values are cut. -/
def pr (c : Dev nD) : Dev nD := ⟨if c.val % 2 = 0 then c.val + 1 else c.val - 1, by
  have h : c.val < 8 := c.isLt
  show _ < 8
  split <;> omega⟩

theorem pr_pr (c : Dev nD) : pr (pr c) = c := by revert c; decide
theorem pr_ne (c : Dev nD) : pr c ≠ c := by revert c; decide

theorem dev1_val : ∀ c : Dev nD, k0_dev1 c = (pr c).val := by decide +kernel
theorem dev2_val : ∀ c : Dev nD, k0_dev2 c = (pr c).val := by decide +kernel
theorem dev3_val : ∀ c : Dev nD, k0_dev3 c = (pr c).val := by decide +kernel
theorem dev4_val : ∀ c : Dev nD, k0_dev4 c = (pr c).val := by decide +kernel
theorem dev5_val : ∀ c : Dev nD, k0_dev5 c = (pr c).val := by decide +kernel
theorem dev6_val : ∀ c : Dev nD, k0_dev6 c = (pr c).val := by decide +kernel
theorem dev7_val : ∀ c : Dev nD, k0_dev7 c = (pr c).val := by decide +kernel
theorem dev8_val : ∀ c : Dev nD, k0_dev8 c = (pr c).val := by decide +kernel
theorem dev9_val : ∀ c : Dev nD, k0_dev9 c = (pr c).val := by decide +kernel

/-! ## The pieces -/

theorem rowsO_inb (s : Fin 2) (b : Fin 4) : ∀ a, (![s.val, 8 * b.val, 0, 0] : Fin 4 → ℕ) a + S1x8x32x128.size a ≤ S2x32x32x128.size a := by
  revert s b; decide
theorem rowsL_inb (s : Fin 2) (b : Fin 4) : ∀ a, (![s.val, 8 * b.val, 0, 0] : Fin 4 → ℕ) a + S1x8x32x1.size a ≤ S2x32x32x1.size a := by
  revert s b; decide

/-- Rows `8·b … 8·b+7` of slot `s` of `o_comm`, as the copies and waits address them. -/
abbrev oRow (s : Fin 2) (b : Fin 4) : Memref sig .tc .vmem S8x32x128 .bf16 :=
  ((Memref.whole cc0_scratch2).slice (Rect.unit (s := S2x32x32x128) ![s.val, 8 * b.val, 0, 0] S1x8x32x128.size (rowsO_inb s b)) (fun _ => rfl)).squeeze
    S8x32x128 squeezes_S1x8x32x128_S8x32x128
/-- The same rows of `l_comm`. -/
abbrev lRow (s : Fin 2) (b : Fin 4) : Memref sig .tc .vmem S8x32x1 .f32 :=
  ((Memref.whole cc0_scratch3).slice (Rect.unit (s := S2x32x32x1) ![s.val, 8 * b.val, 0, 0] S1x8x32x1.size (rowsL_inb s b)) (fun _ => rfl)).squeeze
    S8x32x1 squeezes_S1x8x32x1_S8x32x1

theorem mem_oRow (s : Fin 2) (b : Fin 4) (i : S2x32x32x128.Idx) :
    i ∈ ((oRow s b).view.set : Finset S2x32x32x128.Idx) ↔ (i 0).val = s.val ∧ (i 1).val / 8 = b.val := by
  have h2 : (i 2).val < 32 := (i 2).isLt
  have h3 : (i 3).val < 128 := (i 3).isLt
  have e : ((oRow s b).view.set : Finset S2x32x32x128.Idx)
      = (Rect.unit (s := S2x32x32x128) ![s.val, 8 * b.val, 0, 0] S1x8x32x128.size (rowsO_inb s b)).set :=
    (View.set_reshape _ _).trans (View.set_slice_whole cc0_scratch2 _)
  rw [e, Rect.mem_set_unit]
  constructor
  · intro h
    have a0 := h 0
    have a1 := h 1
    simp at a0 a1
    omega
  · rintro ⟨a0, a1⟩ a
    fin_cases a <;> simp <;> omega
theorem mem_lRow (s : Fin 2) (b : Fin 4) (i : S2x32x32x1.Idx) :
    i ∈ ((lRow s b).view.set : Finset S2x32x32x1.Idx) ↔ (i 0).val = s.val ∧ (i 1).val / 8 = b.val := by
  have h2 : (i 2).val < 32 := (i 2).isLt
  have h3 : (i 3).val < 1 := (i 3).isLt
  have e : ((lRow s b).view.set : Finset S2x32x32x1.Idx)
      = (Rect.unit (s := S2x32x32x1) ![s.val, 8 * b.val, 0, 0] S1x8x32x1.size (rowsL_inb s b)).set :=
    (View.set_reshape _ _).trans (View.set_slice_whole cc0_scratch3 _)
  rw [e, Rect.mem_set_unit]
  constructor
  · intro h
    have a0 := h 0
    have a1 := h 1
    simp at a0 a1
    omega
  · rintro ⟨a0, a1⟩ a
    fin_cases a <;> simp <;> omega

/-- What a copy of one batch entry's rows of `o_comm` adds to a semaphore; and of `l_comm`. -/
abbrev nO : ℕ := (oRow 1 0).view.dmaCredit
abbrev nL : ℕ := (lRow 1 0).view.dmaCredit
theorem amountO (s : Fin 2) (b : Fin 4) (d : DmaSem sig) : (oRow s b).view.amount (.dma d) = nO := rfl
theorem amountL (s : Fin 2) (b : Fin 4) (d : DmaSem sig) : (lRow s b).view.amount (.dma d) = nL := rfl
theorem nO_pos : 0 < nO := (oRow 1 0).view.amount_pos (.dma (7 : DmaSem sig)) (by decide)
theorem nL_pos : 0 < nL := (lRow 1 0).view.amount_pos (.dma (7 : DmaSem sig)) (by decide)

end Cert.KernelIdeal.Proof

end
-- ==== Proof.KernelIdeal.Protocol.lean ====
/-
  The protocol between the two devices of a pair, written down as a schedule of semaphore rounds.

  Every cell has one round with one payment.
  - Barrier cell of device `c`: the peer pays 1 at its first grid point. With the unit it hands over slot 1 of both of its
    communication buffers, for `c` to copy into, and that its receive cells are open.
  - Receive cell `(k, b)` of `c` (`k = 0`: `o_comm`, `k = 1`: `l_comm`; `b` the batch entry): the peer's copy pays the copy's
    size. It hands over rows `8·b … 8·b+7` of slot 1 of `c`, at the peer's packed accumulators.
  - Send cell `(k, b)` of `c`: its own copy pays the copy's size. It hands back rows `8·b … 8·b+7` of slot 0 of `c`.

  What the packed accumulators of the devices are is a parameter here: `CO c` and `CL c`, as contents of the whole buffer.
-/
module

public import proofs.«01_k».proof.Proof.KernelIdeal.Regions

@[expose] public section

set_option maxRecDepth 16384

noncomputable section

namespace Cert.KernelIdeal.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

/-- The ghost state: the pipeline's rounds on the left, this protocol's on the right. -/
abbrev UU := UR sig nD τ × UR sig nD τ
local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR

/-! ## Cells -/

/-- A copy: which buffer, which batch entry. -/
abbrev Lane := Fin 2 × Fin 4

def sendS (x : Lane) : DmaSem sig := ⟨7 + 4 * x.1.val + x.2.val, by
  have h1 := x.1.isLt; have h2 := x.2.isLt; show _ < 23; omega⟩
def recvS (x : Lane) : DmaSem sig := ⟨15 + 4 * x.1.val + x.2.val, by
  have h1 := x.1.isLt; have h2 := x.2.isLt; show _ < 23; omega⟩

abbrev barCell (c : Dev nD) : GSem nD τ sig := ((c : Thread nD τ), .reg barrier0)
abbrev sendCell (c : Dev nD) (x : Lane) : GSem nD τ sig := ((c : Thread nD τ), .dma (sendS x))
abbrev recvCell (c : Dev nD) (x : Lane) : GSem nD τ sig := ((c : Thread nD τ), .dma (recvS x))

/-- What a semaphore is to the protocol. -/
inductive Role
  | none
  | bar
  | send (x : Lane)
  | recv (x : Lane)
  deriving DecidableEq

def role : SemLoc sig → Role
  | .reg _ => .bar
  | .dma n =>
    if n.val < 7 then .none
    else if n.val < 15 then .send (Fin.ofNat 2 ((n.val - 7) / 4), Fin.ofNat 4 ((n.val - 7) % 4))
    else .recv (Fin.ofNat 2 ((n.val - 15) / 4), Fin.ofNat 4 ((n.val - 15) % 4))

theorem role_send : ∀ x : Lane, role (.dma (sendS x)) = .send x := by decide
theorem role_recv : ∀ x : Lane, role (.dma (recvS x)) = .recv x := by decide
theorem role_bar : role (.reg barrier0) = .bar := rfl

/-- What one copy adds to its cells. -/
def amt (k : Fin 2) : ℕ := if k = 0 then nO else nL
theorem amt_pos (k : Fin 2) : 0 < amt k := by unfold amt; split; exacts [nO_pos, nL_pos]

/-- What the one payment on a cell amounts to. -/
def roleAmt : Role → ℕ
  | .none => 1
  | .bar => 1
  | .send x => amt x.1
  | .recv x => amt x.1
theorem roleAmt_pos (ρ : Role) : 0 < roleAmt ρ := by cases ρ; exacts [Nat.one_pos, Nat.one_pos, amt_pos _, amt_pos _]

/-! ## Payloads -/

abbrev OBuf (F : FTy → Type) : Type := (cc0_scratch2 : Ref sig .tc).ty.Contents (Elt F)
abbrev LBuf (F : FTy → Type) : Type := (cc0_scratch3 : Ref sig .tc).ty.Contents (Elt F)

/-- Device `c` holds batch entry `b`'s rows of slot `s` of `o_comm`, at `f`; of `l_comm`. -/
abbrev oPt (c : Dev nD) (s : Fin 2) (b : Fin 4) (f : OBuf F) : sProp 𝕄 :=
  (oRow s b).view.loc (c : Thread nD τ) ↦[(oRow s b).view.set]{fullShare} f
abbrev lPt (c : Dev nD) (s : Fin 2) (b : Fin 4) (f : LBuf F) : sProp 𝕄 :=
  (lRow s b).view.loc (c : Thread nD τ) ↦[(lRow s b).view.set]{fullShare} f

variable (CO : Dev nD → OBuf F) (CL : Dev nD → LBuf F)

def sendPay (c : Dev nD) (x : Lane) : sProp 𝕄 := if x.1 = 0 then oPt c 0 x.2 (CO c) else lPt c 0 x.2 (CL c)
def recvPay (c : Dev nD) (x : Lane) : sProp 𝕄 := if x.1 = 0 then oPt c 1 x.2 (CO (pr c)) else lPt c 1 x.2 (CL (pr c))

/-- What device `c` lends its peer for batch entry `b`: its rows of slot 1. -/
def lent (c : Dev nD) (b : Fin 4) : sProp 𝕄 :=
  iprop((∃ f, oPt c 1 b f) ∗ (∃ f, lPt c 1 b f) ∗ reached ER (recvCell c (0, b)) 0 ∗ reached ER (recvCell c (1, b)) 0)
def barPay (c : Dev nD) : sProp 𝕄 := bigSep (Finset.univ : Finset (Fin 4)) (lent (F := F) (pr c))

instance lent_storable (c : Dev nD) (b : Fin 4) : BI.Storable (upEmb : UEmb _ 𝕄) (lent (F := F) c b) := by
  unfold lent; infer_instance
instance barPay_storable (c : Dev nD) : BI.Storable (upEmb : UEmb _ 𝕄) (barPay (F := F) c) := by
  unfold barPay; infer_instance

/-! ## The schedule -/

def talkRd : Rounds.Schedule (GSem nD τ sig) Unit 𝕄 where
  duties g r := if r = 0 ∧ g.1.2 = .tc ∧ role g.2 ≠ .none then {()} else ∅
  unitless _ := False
  amount g _ _ := roleAmt (role g.2)
  payload g _ _ := match role g.2 with
    | .none => iprop(emp)
    | .bar => barPay g.1.1
    | .send x => sendPay CO CL g.1.1 x
    | .recv x => recvPay CO CL g.1.1 x
  amount_pos g _ _ _ := roleAmt_pos _

instance talkRd_payload_storable (g : GSem nD τ sig) (r : ℕ) (d : Unit) :
    BI.Storable (upEmb : UEmb _ 𝕄) ((talkRd CO CL).payload g r d) := by
  show BI.Storable upEmb (match role g.2 with
    | .none => iprop(emp) | .bar => barPay g.1.1 | .send x => sendPay CO CL g.1.1 x | .recv x => recvPay CO CL g.1.1 x)
  unfold sendPay recvPay
  (repeat' split) <;> infer_instance

section Sched

variable (c : Dev nD) (x : Lane)

theorem duties_bar : (talkRd CO CL).duties (barCell c) 0 = {()} := by
  dsimp only [talkRd]; exact if_pos ⟨rfl, rfl, by decide⟩
theorem duties_send : (talkRd CO CL).duties (sendCell c x) 0 = {()} := if_pos ⟨rfl, rfl, by rw [role_send]; exact Role.noConfusion⟩
theorem duties_recv : (talkRd CO CL).duties (recvCell c x) 0 = {()} := if_pos ⟨rfl, rfl, by rw [role_recv]; exact Role.noConfusion⟩
theorem duties_later (g : GSem nD τ sig) : ∀ r, 1 ≤ r → (talkRd CO CL).duties g r = ∅ :=
  fun r hr => if_neg (fun h => by have := h.1; omega)

theorem amount_bar (u : Unit) : (talkRd CO CL).amount (barCell c) 0 u = 1 := rfl
theorem amount_send (u : Unit) : (talkRd CO CL).amount (sendCell c x) 0 u = amt x.1 := by
  dsimp only [talkRd]; rw [role_send]; rfl
theorem amount_recv (u : Unit) : (talkRd CO CL).amount (recvCell c x) 0 u = amt x.1 := by
  dsimp only [talkRd]; rw [role_recv]; rfl

theorem expect_bar : (talkRd CO CL).expect (barCell c) 0 = 1 := by
  unfold Schedule.expect Schedule.amountOf; rw [duties_bar, Finset.sum_singleton, amount_bar]
theorem expect_send : (talkRd CO CL).expect (sendCell c x) 0 = amt x.1 := by
  unfold Schedule.expect Schedule.amountOf; rw [duties_send, Finset.sum_singleton, amount_send]
theorem expect_recv : (talkRd CO CL).expect (recvCell c x) 0 = amt x.1 := by
  unfold Schedule.expect Schedule.amountOf; rw [duties_recv, Finset.sum_singleton, amount_recv]

theorem payload_bar (u : Unit) : (talkRd CO CL).payload (barCell c) 0 u = barPay c := rfl
theorem payload_send (u : Unit) : (talkRd CO CL).payload (sendCell c x) 0 u = sendPay CO CL c x := by
  dsimp only [talkRd]; rw [role_send]
theorem payload_recv (u : Unit) : (talkRd CO CL).payload (recvCell c x) 0 u = recvPay CO CL c x := by
  dsimp only [talkRd]; rw [role_recv]

theorem rest_bar : bigSep ((talkRd CO CL).duties (barCell c) 0 \ ∅) (fun u => (talkRd CO CL).payload (barCell c) 0 u) = barPay c := by
  rw [Finset.sdiff_empty, duties_bar, bigSep_singleton, payload_bar]
theorem rest_send : bigSep ((talkRd CO CL).duties (sendCell c x) 0 \ ∅) (fun u => (talkRd CO CL).payload (sendCell c x) 0 u)
    = sendPay CO CL c x := by
  rw [Finset.sdiff_empty, duties_send, bigSep_singleton, payload_send]
theorem rest_recv : bigSep ((talkRd CO CL).duties (recvCell c x) 0 \ ∅) (fun u => (talkRd CO CL).payload (recvCell c x) 0 u)
    = recvPay CO CL c x := by
  rw [Finset.sdiff_empty, duties_recv, bigSep_singleton, payload_recv]

end Sched

/-! ## What a device owes, and the levels -/

/-- What the copies of batch entry `b` will pay on the peer's receive cells. -/
def dueOf (c : Dev nD) (b : Fin 4) : CellTallies nD τ sig Unit :=
  tallyAt (recvCell (pr c) (1, b)) () nL + tallyAt (recvCell (pr c) (0, b)) () nO
/-- What the copies of batch entries `n` and later will pay. -/
def dueFrom (c : Dev nD) (n : ℕ) : CellTallies nD τ sig Unit := ∑ b : Fin 4, if n ≤ b.val then dueOf c b else 0
/-- What is owed when grid point `t` starts: the copies of the batch entries not yet done, and before point 0 the barrier unit. -/
def owedAt (c : Dev nD) (t : ℕ) : CellTallies nD τ sig Unit :=
  dueFrom c (t / 4) + if t = 0 then tallyAt (barCell (pr c)) () 1 else 0

theorem dueFrom_four (c : Dev nD) : dueFrom c 4 = 0 :=
  Finset.sum_eq_zero fun b _ => if_neg (by have := b.isLt; omega)
theorem dueFrom_peel (c : Dev nD) (b : Fin 4) : dueFrom c b.val = dueFrom c (b.val + 1) + dueOf c b := by
  unfold dueFrom
  rw [← Finset.add_sum_erase _ _ (Finset.mem_univ b), ← Finset.add_sum_erase (a := b) (f := fun b' : Fin 4 => if b.val + 1 ≤ b'.val then dueOf c b' else 0) _ (Finset.mem_univ b),
    if_pos (le_refl _), if_neg (by omega), zero_add, add_comm]
  congr 1
  refine Finset.sum_congr rfl fun b' hb' => ?_
  have hne : b' ≠ b := Finset.ne_of_mem_erase hb'
  have : b'.val ≠ b.val := fun h => hne (Fin.ext h)
  by_cases h : b.val ≤ b'.val
  · rw [if_pos h, if_pos (by omega)]
  · rw [if_neg h, if_neg (by omega)]

def L (g : GSem nD τ sig) : Finset Unit := if g.1.2 = .tc then {()} else ∅
/-- Barrier cells at 1, receive cells at 2, everything else at 0. -/
def lv (g : GSem nD τ sig) (_ : Unit) : ℕ := match role g.2 with
  | .none => 0
  | .bar => 1
  | .send _ => 0
  | .recv _ => 2

theorem L_of_ne (g : GSem nD τ sig) (h : g.1.2 ≠ .tc) : L g = ∅ := if_neg h
theorem L_tc (c : Dev nD) (sm : SemLoc sig) : L ((c : Thread nD τ), sm) = {()} := if_pos rfl

theorem dueFrom_pos {c : Dev nD} {n : ℕ} {g : GSem nD τ sig} {u : Unit} (h : 0 < dueFrom c n g u) :
    ∃ x : Lane, g = recvCell (pr c) x := by
  by_contra hx
  have hno : ∀ b : Fin 4, dueOf c b g u = 0 := fun b => by
    show tallyAt (recvCell (pr c) (1, b)) () nL g u + tallyAt (recvCell (pr c) (0, b)) () nO g u = 0
    rw [tallyAt_apply, tallyAt_apply, if_neg (fun h => hx ⟨_, h.1⟩), if_neg (fun h => hx ⟨_, h.1⟩)]
  have h0 : dueFrom c n g u = 0 := by
    unfold dueFrom
    rw [Finset.sum_apply, Finsupp.finset_sum_apply]
    refine Finset.sum_eq_zero fun b _ => ?_
    split
    · exact hno b
    · rfl
  omega

theorem owedAt_level {c : Dev nD} {t : ℕ} {g : GSem nD τ sig} {u : Unit} (h : 0 < owedAt c t g u) : u ∈ L g ∧ 0 < lv g u := by
  have h' : 0 < dueFrom c (t / 4) g u + (if t = 0 then tallyAt (barCell (pr c)) () 1 else 0) g u := h
  by_cases hd : 0 < dueFrom c (t / 4) g u
  · obtain ⟨x, rfl⟩ := dueFrom_pos hd
    refine ⟨by rw [L_tc]; exact Finset.mem_singleton_self _, ?_⟩
    dsimp only [lv]; rw [role_recv]; exact Nat.two_pos
  · by_cases hg : g = barCell (pr c)
    · subst hg
      exact ⟨by rw [L_tc]; exact Finset.mem_singleton_self _, Nat.one_pos⟩
    · exfalso
      have : (if t = 0 then tallyAt (barCell (pr c)) () 1 else 0 : CellTallies nD τ sig Unit) g u = 0 := by
        split
        · rw [tallyAt_apply, if_neg (fun h => hg h.1)]
        · rfl
      omega

theorem mayWait_bar (c : Dev nD) : (levAts L lv : sProp 𝕄) ⊢ MayWait (c : Thread nD τ) (.reg barrier0) () (dueFrom c 0) :=
  MayOwe.of_cut (L := L) (lev := lv) 1 (fun p hp => by rw [Finset.mem_singleton.mp hp, L_tc]; exact Finset.mem_singleton_self _)
    (fun g u hg => by obtain ⟨x, rfl⟩ := dueFrom_pos hg; rw [L_tc]; exact Finset.mem_singleton_self _)
    (fun p hp => by rw [Finset.mem_singleton.mp hp]; exact le_refl _)
    (fun g u hg => by obtain ⟨x, rfl⟩ := dueFrom_pos hg; dsimp only [lv]; rw [role_recv]; exact Nat.one_lt_two)

end Cert.KernelIdeal.Proof

end
-- ==== Proof.KernelIdeal.Values.lean ====
/-
  What the kernel's scratch buffers hold.

  - `stepO`, `stepL`: the two accumulators after one grid point, from what they held and the point's blocks of Q, K and V.
  - `packO`, `packL`: the rows of the communication buffers that the last chunk of a batch entry packs from the accumulators.
  - `outOf`: the output block, from the two slots of the communication buffers.
-/
module

public import proofs.«01_k».proof.Proof.KernelIdeal.Protocol
public import Idealize.ShloMosaic.Lib.Pipeline.Value
public import Idealize.ShloMosaic.Lib.Pointwise

@[expose] public section

set_option maxRecDepth 16384

noncomputable section

namespace Cert.KernelIdeal.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pointwise Cert.KernelIdeal.Gen

variable {F : FTy → Type} [FloatOps F] [Named F]

abbrev QBlk (F : FTy → Type) : Type := S1x32x8x128.Idx → Elt F .bf16
abbrev KBlk (F : FTy → Type) : Type := S1x1024x8x128.Idx → Elt F .bf16
abbrev OAcc (F : FTy → Type) : Type := (cc0_scratch0 : Ref sig .tc).ty.Contents (Elt F)
abbrev LAcc (F : FTy → Type) : Type := (cc0_scratch1 : Ref sig .tc).ty.Contents (Elt F)

/-! ## Heads by groups of four -/

theorem grpQ_inb (g : Fin 2) : ∀ a, (![0, 0, 4 * g.val, 0] : Fin 4 → ℕ) a + S1x32x4x128.size a ≤ S1x32x8x128.size a := by
  revert g; decide
theorem grpK_inb (g : Fin 2) : ∀ a, (![0, 0, 4 * g.val, 0] : Fin 4 → ℕ) a + S1x1024x4x128.size a ≤ S1x1024x8x128.size a := by
  revert g; decide
theorem grpO_inb (g : Fin 2) : ∀ a, (![g.val, 0, 0] : Fin 3 → ℕ) a + S1x128x128.size a ≤ S2x128x128.size a := by
  revert g; decide
theorem grpL_inb (g : Fin 2) : ∀ a, (![g.val, 0, 0] : Fin 3 → ℕ) a + S1x128x1.size a ≤ S2x128x1.size a := by
  revert g; decide

/-- Heads `4·g … 4·g+3` of a block of Q; of a block of K or V. -/
abbrev rQ (g : Fin 2) : Rect S1x32x8x128 := Rect.unit (s := S1x32x8x128) ![0, 0, 4 * g.val, 0] S1x32x4x128.size (grpQ_inb g)
abbrev rK (g : Fin 2) : Rect S1x1024x8x128 := Rect.unit (s := S1x1024x8x128) ![0, 0, 4 * g.val, 0] S1x1024x4x128.size (grpK_inb g)
/-- Group `g` of the accumulators. -/
abbrev rO (g : Fin 2) : Rect S2x128x128 := Rect.unit (s := S2x128x128) ![g.val, 0, 0] S1x128x128.size (grpO_inb g)
abbrev rL (g : Fin 2) : Rect S2x128x1 := Rect.unit (s := S2x128x1) ![g.val, 0, 0] S1x128x1.size (grpL_inb g)

def grpQ (g : Fin 2) (q : QBlk F) : Vec F S1x32x4x128 .bf16 := fun y => q ((rQ g).emb y)
def grpK (g : Fin 2) (k : KBlk F) : Vec F S1x1024x4x128 .bf16 := fun y => k ((rK g).emb y)
def grpO (g : Fin 2) (a : OAcc F) : Vec F S1x128x128 .f32 := fun y => a ((rO g).emb y)
def grpL (g : Fin 2) (a : LAcc F) : Vec F S1x128x1 .f32 := fun y => a ((rL g).emb y)

/-- The columns' numbers, which the mask compares with the rows'. -/
abbrev colNo : IVec S128x4096 32 := iota .tc S128x4096 32 [1] iota_S128x4096_d1_w32

/-- One group's accumulator of the unnormalised outputs, after one more chunk; and of the row sums. -/
def addO (q : Vec F S1x32x4x128 .bf16) (k v : Vec F S1x1024x4x128 .bf16) (a : Vec F S1x128x128 .f32) : Vec F S1x128x128 .f32 :=
  k0_pay84 (k0_pay80 v) (k0_pay83 k0_pay78 colNo 4#32 q k) (constant S128x128 .f32 0x00000000#32) a
def addL (q : Vec F S1x32x4x128 .bf16) (k : Vec F S1x1024x4x128 .bf16) (a : Vec F S1x128x1 .f32) : Vec F S1x128x1 .f32 :=
  k0_pay85 (k0_pay82 k0_pay78 colNo 4#32 q k) a

def locO (j : S2x128x128.Idx) : S1x128x128.Idx := ix3 (0 : Fin 1) (j 1) (j 2)
def locL (j : S2x128x1.Idx) : S1x128x1.Idx := ix3 (0 : Fin 1) (j 1) (j 2)

/-- The accumulators after one grid point. -/
def stepO (q : QBlk F) (k v : KBlk F) (a : OAcc F) : OAcc F := fun j : S2x128x128.Idx =>
  addO (grpQ (j 0) q) (grpK (j 0) k) (grpK (j 0) v) (grpO (j 0) a) (locO j)
def stepL (q : QBlk F) (k : KBlk F) (a : LAcc F) : LAcc F := fun j : S2x128x1.Idx =>
  addL (grpQ (j 0) q) (grpK (j 0) k) (grpL (j 0) a) (locL j)

theorem emb_rO (g : Fin 2) (y : S1x128x128.Idx) : ((rO g).emb y : S2x128x128.Idx) 0 = g ∧ locO ((rO g).emb y) = y := by
  constructor
  · refine Fin.ext ?_
    have h0 : (y 0).val < 1 := (y 0).isLt
    show g.val + 1 * (y 0).val = g.val
    omega
  · funext a
    refine Fin.ext ?_
    have h0 : (y 0).val < 1 := (y 0).isLt
    fin_cases a
    · show 0 = (y 0).val
      omega
    · show 0 + 1 * (y 1).val = (y 1).val
      omega
    · show 0 + 1 * (y 2).val = (y 2).val
      omega
theorem emb_rL (g : Fin 2) (y : S1x128x1.Idx) : ((rL g).emb y : S2x128x1.Idx) 0 = g ∧ locL ((rL g).emb y) = y := by
  constructor
  · refine Fin.ext ?_
    have h0 : (y 0).val < 1 := (y 0).isLt
    show g.val + 1 * (y 0).val = g.val
    omega
  · funext a
    refine Fin.ext ?_
    have h0 : (y 0).val < 1 := (y 0).isLt
    fin_cases a
    · show 0 = (y 0).val
      omega
    · show 0 + 1 * (y 1).val = (y 1).val
      omega
    · show 0 + 1 * (y 2).val = (y 2).val
      omega

theorem stepO_emb (g : Fin 2) (q : QBlk F) (k v : KBlk F) (a : OAcc F) (y : S1x128x128.Idx) :
    stepO q k v a ((rO g).emb y) = addO (grpQ g q) (grpK g k) (grpK g v) (grpO g a) y := by
  unfold stepO; rw [(emb_rO g y).1, (emb_rO g y).2]
theorem stepL_emb (g : Fin 2) (q : QBlk F) (k : KBlk F) (a : LAcc F) (y : S1x128x1.Idx) :
    stepL q k a ((rL g).emb y) = addL (grpQ g q) (grpK g k) (grpL g a) y := by
  unfold stepL; rw [(emb_rL g y).1, (emb_rL g y).2]

theorem cover_rO (j : S2x128x128.Idx) : j ∈ (rO (j 0)).set := by
  have h1 : (j 1).val < 128 := (j 1).isLt
  have h2 : (j 2).val < 128 := (j 2).isLt
  rw [Rect.mem_set_unit]
  intro a
  fin_cases a <;> simp <;> omega
theorem cover_rL (j : S2x128x1.Idx) : j ∈ (rL (j 0)).set := by
  have h1 : (j 1).val < 128 := (j 1).isLt
  have h2 : (j 2).val < 1 := (j 2).isLt
  rw [Rect.mem_set_unit]
  intro a
  fin_cases a <;> simp <;> omega

/-- Contents written piece by piece, every piece a tile of one function: that function, where some piece lies. -/
theorem writes_whole_apply {b : Ref sig .tc} (G : b.ty.shape.Idx → Elt F b.ty.elt) (f : b.ty.Contents (Elt F))
    (L : List (View.Piece (Elt F) b.ty.shape b.ty.elt)) (hL : ∀ p ∈ L, ∀ x : p.1.shape.Idx, p.2 x = G (p.1.emb x))
    (y : b.ty.shape.Idx) (hy : ∃ p ∈ L, y ∈ p.1.set) : (Memref.whole b).view.writes (Elt F) f L y = G y := by
  induction L with
  | nil => obtain ⟨p, hp, _⟩ := hy; exact absurd hp List.not_mem_nil
  | cons p L ih =>
    by_cases hm : y ∈ p.1.set
    · obtain ⟨x, rfl⟩ := p.1.exists_idx_of_mem hm
      exact (View.read_writes_cons_emb (Memref.whole b).view f p.1 p.2 L x).trans (hL p List.mem_cons_self x)
    · have hy' : ∃ q ∈ L, y ∈ q.1.set := by
        obtain ⟨q, hq, hyq⟩ := hy
        rcases List.mem_cons.mp hq with rfl | hq'
        · exact absurd hyq hm
        · exact ⟨q, hq', hyq⟩
      refine Eq.trans ?_ (ih (fun q hq => hL q (List.mem_cons_of_mem _ hq)) hy')
      rw [View.writes_cons]
      exact View.read_slice_write_of_not_mem (v := (Memref.whole b).view) (Val := Elt F) p.1 _ p.2 _ (by rwa [Rect.map_emb_univ])

/-! ## Packing -/

/-- The head group in row `j`, and where query `n` of row `j`'s head sits in the group's accumulator. -/
def packG (j : Fin 32) : Fin 2 := ⟨j.val % 8 / 4, by omega⟩
def packR (j n : Fin 32) : Fin 128 := ⟨4 * n.val + j.val % 4, by have := n.isLt; omega⟩

/-- The rows packed from the accumulators: row `j` of a batch entry's eight has head group `j / 4` and head `j % 4` in it. -/
def packO (a : OAcc F) : OBuf F := fun i : S2x32x32x128.Idx =>
  FloatOps.truncf .bf16 bitsLt_bf16_f32 (a (ix3 (packG (i 1)) (packR (i 1) (i 2)) (i 3) : S2x128x128.Idx))
def packL (a : LAcc F) : LBuf F := fun i : S2x32x32x1.Idx =>
  a (ix3 (packG (i 1)) (packR (i 1) (i 2)) (i 3) : S2x128x1.Idx)

/-! ## The output -/

theorem slotO_inb (s : Fin 2) : ∀ a, (![s.val, 0, 0, 0] : Fin 4 → ℕ) a + S1x32x32x128.size a ≤ S2x32x32x128.size a := by
  revert s; decide
theorem slotL_inb (s : Fin 2) : ∀ a, (![s.val, 0, 0, 0] : Fin 4 → ℕ) a + S1x32x32x1.size a ≤ S2x32x32x1.size a := by
  revert s; decide
def slotO (s : Fin 2) (f : OBuf F) : Vec F S1x32x32x128 .bf16 := fun y =>
  f ((Rect.unit (s := S2x32x32x128) ![s.val, 0, 0, 0] S1x32x32x128.size (slotO_inb s)).emb y)
def slotL (s : Fin 2) (f : LBuf F) : Vec F S1x32x32x1 .f32 := fun y =>
  f ((Rect.unit (s := S2x32x32x1) ![s.val, 0, 0, 0] S1x32x32x1.size (slotL_inb s)).emb y)
/-- The output block: the two devices' packed accumulators added up, and divided. -/
def outOf (fo : OBuf F) (fl : LBuf F) : S32x32x128.Idx → Elt F .f32 :=
  k0_pay1 (k0_pay74 (slotO 0 fo) (slotO 1 fo)) (k0_pay75 (slotL 0 fl) (slotL 1 fl))

end Cert.KernelIdeal.Proof

end
-- ==== Proof.KernelIdeal.Steps.lean ====
/-
  The resources a grid point of the kernel's body works on, and how the run's lists of writes read back as the values of
  the `Values` module.
-/
module

public import proofs.«01_k».proof.Proof.KernelIdeal.Values

@[expose] public section

set_option maxRecDepth 16384

noncomputable section

namespace Cert.KernelIdeal.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pointwise Cert.KernelIdeal.Gen

variable {F : FTy → Type} [FloatOps F] [Named F]
local notation "𝕄" => MT nD τ sig Unit (Elt F) ℕ UU ℕ

abbrev 𝒱₀ : Variants := Variants.none

/-- The accumulators, at raw contents. -/
abbrev accO (c : Dev nD) (a : OAcc F) : sProp 𝕄 :=
  (Memref.whole cc0_scratch0).view.loc (c : Thread nD τ) ↦[(Memref.whole cc0_scratch0).view.set]{fullShare} a
abbrev accL (c : Dev nD) (l : LAcc F) : sProp 𝕄 :=
  (Memref.whole cc0_scratch1).view.loc (c : Thread nD τ) ↦[(Memref.whole cc0_scratch1).view.set]{fullShare} l

/-- Device `c` holds its two accumulators. -/
def accPt (c : Dev nD) (a : OAcc F) (l : LAcc F) : sProp 𝕄 := iprop(accO c a ∗ accL c l)

/-- The point's blocks of Q, K and V in their staging buffers. -/
def blkPt (c : Dev nD) (mq : Memref sig .tc .vmem S1x32x8x128 .bf16) (mk mv : Memref sig .tc .vmem S1x1024x8x128 .bf16)
    (q : QBlk F) (k v : KBlk F) : sProp 𝕄 :=
  iprop((mq.view.loc (c : Thread nD τ) ↦[mq.view.set]{fullShare} mq.view.rep q)
    ∗ (mk.view.loc (c : Thread nD τ) ↦[mk.view.set]{fullShare} mk.view.rep k)
    ∗ (mv.view.loc (c : Thread nD τ) ↦[mv.view.set]{fullShare} mv.view.rep v))

theorem not_mem_rO (y : S1x128x128.Idx) : (rO 0).emb y ∉ (rO 1).set := by
  intro h
  rw [Rect.mem_set_unit] at h
  have h0 : 1 ≤ ((rO 0).emb y 0).val := (h 0).1
  have h1 : ((rO 0).emb y 0).val = 0 := congrArg Fin.val (emb_rO 0 y).1
  omega
theorem cases_rO (y : S2x128x128.Idx) : (∃ x, (rO 1).emb x = y) ∨ ∃ x, (rO 0).emb x = y := by
  have hc : ∀ g : Fin 2, (y 0 : Fin 2) = g → ∃ x, (rO g).emb x = y := fun g hg => by
    obtain ⟨x, hx⟩ := (rO g).exists_idx_of_mem (hg ▸ cover_rO y)
    exact ⟨x, hx⟩
  rcases (by decide : ∀ g : Fin 2, g = 1 ∨ g = 0) (y 0) with hg | hg
  · exact .inl (hc 1 hg)
  · exact .inr (hc 0 hg)
theorem not_mem_rL (y : S1x128x1.Idx) : (rL 0).emb y ∉ (rL 1).set := by
  intro h
  rw [Rect.mem_set_unit] at h
  have h0 : 1 ≤ ((rL 0).emb y 0).val := (h 0).1
  have h1 : ((rL 0).emb y 0).val = 0 := congrArg Fin.val (emb_rL 0 y).1
  omega
theorem cases_rL (y : S2x128x1.Idx) : (∃ x, (rL 1).emb x = y) ∨ ∃ x, (rL 0).emb x = y := by
  have hc : ∀ g : Fin 2, (y 0 : Fin 2) = g → ∃ x, (rL g).emb x = y := fun g hg => by
    obtain ⟨x, hx⟩ := (rL g).exists_idx_of_mem (hg ▸ cover_rL y)
    exact ⟨x, hx⟩
  rcases (by decide : ∀ g : Fin 2, g = 1 ∨ g = 0) (y 0) with hg | hg
  · exact .inl (hc 1 hg)
  · exact .inr (hc 0 hg)

/-- Two writes that cover a buffer, the tiles of one function, leave that function, whatever was written before. -/
theorem writes_two {b : Ref sig .tc} (G : b.ty.shape.Idx → Elt F b.ty.elt) (f : b.ty.Contents (Elt F))
    (p q : View.Piece (Elt F) b.ty.shape b.ty.elt) (L : List (View.Piece (Elt F) b.ty.shape b.ty.elt))
    (hp : ∀ x, p.2 x = G (p.1.emb x)) (hq : ∀ x, q.2 x = G (q.1.emb x))
    (h : ∀ y, (∃ x, p.1.emb x = y) ∨ ∃ x, q.1.emb x = y) (hn : ∀ x, q.1.emb x ∉ p.1.set) :
    (Memref.whole b).view.writes (Elt F) f (p :: q :: L) = G := by
  funext y
  rcases h y with ⟨x, rfl⟩ | ⟨x, rfl⟩
  · exact (View.read_writes_cons_emb (Memref.whole b).view f p.1 p.2 (q :: L) x).trans (hp x)
  · refine Eq.trans ?_ ((View.read_writes_cons_emb (Memref.whole b).view f q.1 q.2 L x).trans (hq x))
    rw [View.writes_cons]
    exact View.read_slice_write_of_not_mem (v := (Memref.whole b).view) (Val := Elt F) p.1 _ p.2 _
      (by rw [Rect.map_emb_univ]; exact hn x)

/-- The writes of the two groups leave the step's accumulators. -/
theorem writes_stepO (q : QBlk F) (k v : KBlk F) (a a' : OAcc F) (w1 w0 : S1x128x128.Idx → Elt F .f32)
    (L : List (View.Piece (Elt F) S2x128x128 .f32))
    (h1 : w1 = addO (grpQ 1 q) (grpK 1 k) (grpK 1 v) (grpO 1 a)) (h0 : w0 = addO (grpQ 0 q) (grpK 0 k) (grpK 0 v) (grpO 0 a)) :
    (Memref.whole cc0_scratch0).view.writes (Elt F) a' (⟨rO 1, w1⟩ :: ⟨rO 0, w0⟩ :: L) = stepO q k v a :=
  writes_two (b := cc0_scratch0) (stepO q k v a) a' ⟨rO 1, w1⟩ ⟨rO 0, w0⟩ L
    (fun x => (congrFun h1 x).trans (stepO_emb 1 q k v a x).symm) (fun x => (congrFun h0 x).trans (stepO_emb 0 q k v a x).symm)
    cases_rO not_mem_rO
theorem writes_stepL (q : QBlk F) (k : KBlk F) (a a' : LAcc F) (w1 w0 : S1x128x1.Idx → Elt F .f32)
    (L : List (View.Piece (Elt F) S2x128x1 .f32))
    (h1 : w1 = addL (grpQ 1 q) (grpK 1 k) (grpL 1 a)) (h0 : w0 = addL (grpQ 0 q) (grpK 0 k) (grpL 0 a)) :
    (Memref.whole cc0_scratch1).view.writes (Elt F) a' (⟨rL 1, w1⟩ :: ⟨rL 0, w0⟩ :: L) = stepL q k a :=
  writes_two (b := cc0_scratch1) (stepL q k a) a' ⟨rL 1, w1⟩ ⟨rL 0, w0⟩ L
    (fun x => (congrFun h1 x).trans (stepL_emb 1 q k a x).symm) (fun x => (congrFun h0 x).trans (stepL_emb 0 q k a x).symm)
    cases_rL not_mem_rL

/-- Reading the staged blocks, group by group. -/
theorem ld_Q (m : Memref sig .tc .vmem S1x32x8x128 .bf16) (g : Fin 2) (q : QBlk F) :
    View.readAt (Elt F) m.view (rQ g).toLoadRect (m.view.rep q) = grpQ g q := View.readAt_rep m.view _ q
theorem ld_K (m : Memref sig .tc .vmem S1x1024x8x128 .bf16) (g : Fin 2) (k : KBlk F) :
    View.readAt (Elt F) m.view (rK g).toLoadRect (m.view.rep k) = grpK g k := View.readAt_rep m.view _ k
theorem ld_O (g : Fin 2) (a : OAcc F) :
    View.readAt (Elt F) (Memref.whole cc0_scratch0).view (rO g).toLoadRect a = grpO g a := rfl
theorem ld_L (g : Fin 2) (l : LAcc F) :
    View.readAt (Elt F) (Memref.whole cc0_scratch1).view (rL g).toLoadRect l = grpL g l := rfl

end Cert.KernelIdeal.Proof

end
-- ==== Proof.KernelIdeal.Talk.lean ====
/-
  The kernel's steps that involve the peer, one lemma each, at any device: the handshake, a copy of one batch entry's rows of
  each buffer, and a wait on a send or a receive cell.

  A copy carries rows of slot 0 into the same rows of the peer's slot 1. The contents `CO c`, `CL c` do not depend on the slot
  (`SlotFreeO`, `SlotFreeL`), so what arrives in slot 1 is again `CO c`, `CL c` there.
-/
module

public import proofs.«01_k».proof.Proof.KernelIdeal.Steps

@[expose] public section

set_option maxRecDepth 16384

noncomputable section

namespace Cert.KernelIdeal.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pointwise Cert.KernelIdeal.Gen

variable {F : FTy → Type} [FloatOps F] [Named F]
local notation "𝕄" => MT nD τ sig Unit (Elt F) ℕ UU ℕ

/-- The contents are the same in both slots. -/
def SlotFreeO (CO : Dev nD → OBuf F) : Prop :=
  ∀ (c : Dev nD) (i j : S2x32x32x128.Idx), (i 1).val = (j 1).val → (i 2).val = (j 2).val → (i 3).val = (j 3).val → CO c i = CO c j
def SlotFreeL (CL : Dev nD → LBuf F) : Prop :=
  ∀ (c : Dev nD) (i j : S2x32x32x1.Idx), (i 1).val = (j 1).val → (i 2).val = (j 2).val → (i 3).val = (j 3).val → CL c i = CL c j

/-- What a copy of `o_comm`'s rows leaves in slot 1. -/
theorem landO (CO : Dev nD → OBuf F) (hCO : SlotFreeO CO) (c c' : Dev nD) (b : Fin 4) (fd : OBuf F) :
    ((oRow 1 b).view.loc (c' : Thread nD τ) ↦[(oRow 1 b).view.set]{fullShare}
      (oRow 1 b).view.write (Elt F) fd ((oRow 0 b).view.read (Elt F) (CO c)) Finset.univ : sProp 𝕄) = oPt c' 1 b (CO c) := by
  refine pointsTo_congr fun i hi => ?_
  obtain ⟨y, -, rfl⟩ := Finset.mem_map.mp hi
  refine (View.write_emb_of_mem (v := (oRow 1 b).view) _ _ (Finset.mem_univ y)).trans ?_
  exact hCO c ((oRow 0 b).view.emb y) ((oRow 1 b).view.emb y) rfl rfl rfl
theorem landL (CL : Dev nD → LBuf F) (hCL : SlotFreeL CL) (c c' : Dev nD) (b : Fin 4) (fd : LBuf F) :
    ((lRow 1 b).view.loc (c' : Thread nD τ) ↦[(lRow 1 b).view.set]{fullShare}
      (lRow 1 b).view.write (Elt F) fd ((lRow 0 b).view.read (Elt F) (CL c)) Finset.univ : sProp 𝕄) = lPt c' 1 b (CL c) := by
  refine pointsTo_congr fun i hi => ?_
  obtain ⟨y, -, rfl⟩ := Finset.mem_map.mp hi
  refine (View.write_emb_of_mem (v := (lRow 1 b).view) _ _ (Finset.mem_univ y)).trans ?_
  exact hCL c ((lRow 0 b).view.emb y) ((lRow 1 b).view.emb y) rfl rfl rfl

section Steps

variable (CO : Dev nD → OBuf F) (CL : Dev nD → LBuf F) (K : GSem nD τ sig → ℕ) (c : Dev nD)

/-- The invariants device `c` works with: of its own cells and of the cells of the peer it pays. -/
def invs : sProp 𝕄 :=
  iprop(cellInv ER (talkRd CO CL) (K (barCell c)) (barCell c) ∗ cellInv ER (talkRd CO CL) (K (barCell (pr c))) (barCell (pr c))
    ∗ bigSep (Finset.univ : Finset Lane) fun x => iprop(cellInv ER (talkRd CO CL) (K (sendCell c x)) (sendCell c x)
        ∗ cellInv ER (talkRd CO CL) (K (recvCell c x)) (recvCell c x)
        ∗ cellInv ER (talkRd CO CL) (K (recvCell (pr c) x)) (recvCell (pr c) x)))

instance invs_persistent : BI.Persistent (invs CO CL K c) := by unfold invs; infer_instance

theorem invs_lane (x : Lane) : invs CO CL K c ⊢ iprop(cellInv ER (talkRd CO CL) (K (sendCell c x)) (sendCell c x)
        ∗ cellInv ER (talkRd CO CL) (K (recvCell c x)) (recvCell c x)
        ∗ cellInv ER (talkRd CO CL) (K (recvCell (pr c) x)) (recvCell (pr c) x)) := by
  unfold invs
  exact sep_elim_right.trans (sep_elim_right.trans (bigSep_elim (Finset.mem_univ x)))

/-- What the copy of lane `x` needs beside the rows: the tokens of its two duties. -/
def ticket (x : Lane) : sProp 𝕄 :=
  iprop(dutyTok ER (sendCell c x) 0 () ∗ reached ER (sendCell c x) 0 ∗ dutyTok ER (recvCell (pr c) x) 0 ())

theorem step_signal {α : Type} (Q : α → sProp 𝕄) (c' : Dev nD) (hc : c' = pr c) (O : CellTallies nD τ sig Unit) (W : Waits sig Unit)
    (k : PUnit → Prog (TpuEff nD τ sig (Elt F) Λ₀ .tc) α) :
    iprop(invs CO CL K c ∗ owes (c : Thread nD τ) (O + tallyAt (barCell (pr c)) () 1) W ∗ dutyTok ER (barCell (pr c)) 0 ()
        ∗ reached ER (barCell (pr c)) 0 ∗ bigSep (Finset.univ : Finset (Fin 4)) (lent (F := F) c)
        ∗ (owes (c : Thread nD τ) O W -∗ wp frame (wpE (defs₀ (F := F)) 𝒱₀ (c : Thread nD τ) none) Set.univ (k ⟨⟩) Q))
      ⊢ wp frame (wpE (defs₀ (F := F)) 𝒱₀ (c : Thread nD τ) none) Set.univ (.op (.semSignal (c' : Thread nD τ) barrier0 1) k) Q := by
  subst hc
  unfold invs
  iintro ⟨⟨-, #HI, -⟩, HO, Ht, Hr, Hl, Hk⟩
  iapply (Rounds.wp_signal 𝒱₀ ER (talkRd CO CL) (c : Thread nD τ) none (dst := (pr c : Thread nD τ)) (sem := barrier0) (r := 0) (d := ()) (κ := K (barCell (pr c)))
      (by rw [duties_bar]; exact Finset.mem_singleton_self _) (amount_bar CO CL (pr c) ()) () O rfl) $$ [HO Ht Hr Hl]
  · isplitr; · iexact HI
    isplitl [HO]; · iexact HO
    isplitl [Ht]; · iexact Ht
    isplitl [Hl]
    · rw [payload_bar]; unfold barPay; rw [pr_pr]; iexact Hl
    · iexact Hr
  iexact Hk

/-- The wait on the own barrier cell: it brings the peer's slot 1. -/
theorem step_wait_bar {α : Type} (Q : α → sProp 𝕄) (W : Waits sig Unit) (k : PUnit → Prog (TpuEff nD τ sig (Elt F) Λ₀ .tc) α) :
    iprop(invs CO CL K c ∗ levAts L lv ∗ cred (tallyAt (barCell c) () 1) ∗ owes (c : Thread nD τ) (dueFrom c 0) W ∗ atPos ER (barCell c) 0 ∅ 0
        ∗ ((∃ W, owes (c : Thread nD τ) (dueFrom c 0) W) ∗ atPos ER (barCell c) 1 ∅ 0 ∗ bigSep (Finset.univ : Finset (Fin 4)) (lent (F := F) (pr c))
            -∗ wp frame (wpE (defs₀ (F := F)) 𝒱₀ (c : Thread nD τ) none) Set.univ (k ⟨⟩) Q))
      ⊢ wp frame (wpE (defs₀ (F := F)) 𝒱₀ (c : Thread nD τ) none) Set.univ (.op (.semWait barrier0 1) k) Q := by
  unfold invs
  iintro ⟨⟨#HI, -, -⟩, Hlev, Hc, HO, Ha, Hk⟩
  iapply (Rounds.wp_wait_rest_token 𝒱₀ ER (talkRd CO CL) (c : Thread nD τ) none (κ := K (barCell c))
      (wpE_semWait_eq 𝒱₀ (c : Thread nD τ) none Set.univ) (Set.mem_univ _) () (O := dueFrom c 0) (W := W) (R := 0) (m := 0) (T := ∅)
      ((Nat.zero_add 1).trans (expect_bar CO CL c).symm)) $$ [Hlev Hc HO Ha]
  · isplitr; · iexact HI
    isplitl [Hc]; · iexact Hc
    isplitl [HO]; · iexact HO
    isplitl [Hlev]; · iapply (mayWait_bar c); iexact Hlev
    iexact Ha
  iintro ⟨HO, Ha, -, Hpay⟩
  ihave Hp := (Entails.of_eq (rest_bar CO CL c)) $$ Hpay
  unfold barPay
  iapply Hk
  isplitl [HO]; · iexists _; iexact HO
  isplitl [Ha]; · iexact Ha
  iexact Hp

/-- The copy of batch entry `b`'s rows of `o_comm` to the peer. -/
theorem step_sendO {α : Type} (Q : α → sProp 𝕄) (hC : SlotFreeO CO) (b : Fin 4) (c' : Dev nD) (hc : c' = pr c)
    (src dst : Memref sig .tc .vmem S8x32x128 .bf16) (hsrc : src = oRow 0 b) (hdst : dst = oRow 1 b)
    (sS sR : DmaSem sig) (hS : sS = sendS (0, b)) (hR : sR = recvS (0, b)) {hsc : dst.view.ref.isScScratch = false}
    {w1 : src.view.WordExact} {w2 : dst.view.WordExact} {w3 : DmaTarget.Typed .vmem (.dma sR) (.remote (c' : Thread nD τ) dst (.dma sS) hsc)}
    (O : CellTallies nD τ sig Unit) (W : Waits sig Unit) (k : PUnit → Prog (TpuEff nD τ sig (Elt F) Λ₀ .tc) α) :
    iprop(invs CO CL K c ∗ oPt c 0 b (CO c) ∗ (∃ f, oPt (pr c) 1 b f)
        ∗ owes (c : Thread nD τ) (O + tallyAt (recvCell (pr c) (0, b)) () nO) W ∗ ticket c (0, b) ∗ reached ER (recvCell (pr c) (0, b)) 0
        ∗ (cred (tallyAt (sendCell c (0, b)) () nO) ∗ owes (c : Thread nD τ) O W
            -∗ wp frame (wpE (defs₀ (F := F)) 𝒱₀ (c : Thread nD τ) none) Set.univ (k ⟨⟩) Q))
      ⊢ wp frame (wpE (defs₀ (F := F)) 𝒱₀ (c : Thread nD τ) none) Set.univ
          (.op (.enqueueDma src (.remote (c' : Thread nD τ) dst (.dma sS) hsc) (.dma sR) w1 w2 w3) k) Q := by
  subst hc hsrc hdst hS hR
  unfold ticket
  iintro ⟨#HI, Hs, ⟨%fd, Hd⟩, HO, ⟨Ht1, Hr1, Ht2⟩, Hr2, Hk⟩
  ihave #HI' := (invs_lane CO CL K c (0, b)) $$ HI
  icases HI' with ⟨#H1, -, #H2⟩
  iapply (Rounds.wp_send_pointsTo 𝒱₀ ER (talkRd CO CL) (c : Thread nD τ) none (c' := (pr c : Thread nD τ)) (src := oRow 0 b) (dst := oRow 1 b)
      (sS := .dma (sendS (0, b))) (sem := .dma (recvS (0, b))) (q := fullShare) (fs := CO c) (fd := fd)
      (κ₁ := K (sendCell c (0, b))) (κ₂ := K (recvCell (pr c) (0, b))) (r₁ := 0) (r₂ := 0) (d₁ := ()) (d₂ := ())
      (by rw [duties_send]; exact Finset.mem_singleton_self _) (by rw [duties_recv]; exact Finset.mem_singleton_self _)
      () () nO rfl (amount_send CO CL c (0, b) ()) (amount_recv CO CL (pr c) (0, b) ()) O rfl (W := W)
      (by rw [payload_send]; exact BI.Entails.refl _)
      (by rw [payload_recv, landO CO hC c (pr c) b fd]; show _ ⊢ oPt (pr c) 1 b (CO (pr (pr c))); rw [pr_pr])) $$ [Hs Hd HO Ht1 Hr1 Ht2 Hr2]
  · isplitr; · iexact H1
    isplitr; · iexact H2
    isplitl [Hs]; · iexact Hs
    isplitl [Hd]; · iexact Hd
    isplitl [HO]; · iexact HO
    isplitl [Ht1]; · iexact Ht1
    isplitl [Hr1]; · iexact Hr1
    isplitl [Ht2]; · iexact Ht2
    iexact Hr2
  iexact Hk

/-- The copy of batch entry `b`'s rows of `l_comm` to the peer. -/
theorem step_sendL {α : Type} (Q : α → sProp 𝕄) (hC : SlotFreeL CL) (b : Fin 4) (c' : Dev nD) (hc : c' = pr c)
    (src dst : Memref sig .tc .vmem S8x32x1 .f32) (hsrc : src = lRow 0 b) (hdst : dst = lRow 1 b)
    (sS sR : DmaSem sig) (hS : sS = sendS (1, b)) (hR : sR = recvS (1, b)) {hsc : dst.view.ref.isScScratch = false}
    {w1 : src.view.WordExact} {w2 : dst.view.WordExact} {w3 : DmaTarget.Typed .vmem (.dma sR) (.remote (c' : Thread nD τ) dst (.dma sS) hsc)}
    (O : CellTallies nD τ sig Unit) (W : Waits sig Unit) (k : PUnit → Prog (TpuEff nD τ sig (Elt F) Λ₀ .tc) α) :
    iprop(invs CO CL K c ∗ lPt c 0 b (CL c) ∗ (∃ f, lPt (pr c) 1 b f)
        ∗ owes (c : Thread nD τ) (O + tallyAt (recvCell (pr c) (1, b)) () nL) W ∗ ticket c (1, b) ∗ reached ER (recvCell (pr c) (1, b)) 0
        ∗ (cred (tallyAt (sendCell c (1, b)) () nL) ∗ owes (c : Thread nD τ) O W
            -∗ wp frame (wpE (defs₀ (F := F)) 𝒱₀ (c : Thread nD τ) none) Set.univ (k ⟨⟩) Q))
      ⊢ wp frame (wpE (defs₀ (F := F)) 𝒱₀ (c : Thread nD τ) none) Set.univ
          (.op (.enqueueDma src (.remote (c' : Thread nD τ) dst (.dma sS) hsc) (.dma sR) w1 w2 w3) k) Q := by
  subst hc hsrc hdst hS hR
  unfold ticket
  iintro ⟨#HI, Hs, ⟨%fd, Hd⟩, HO, ⟨Ht1, Hr1, Ht2⟩, Hr2, Hk⟩
  ihave #HI' := (invs_lane CO CL K c (1, b)) $$ HI
  icases HI' with ⟨#H1, -, #H2⟩
  iapply (Rounds.wp_send_pointsTo 𝒱₀ ER (talkRd CO CL) (c : Thread nD τ) none (c' := (pr c : Thread nD τ)) (src := lRow 0 b) (dst := lRow 1 b)
      (sS := .dma (sendS (1, b))) (sem := .dma (recvS (1, b))) (q := fullShare) (fs := CL c) (fd := fd)
      (κ₁ := K (sendCell c (1, b))) (κ₂ := K (recvCell (pr c) (1, b))) (r₁ := 0) (r₂ := 0) (d₁ := ()) (d₂ := ())
      (by rw [duties_send]; exact Finset.mem_singleton_self _) (by rw [duties_recv]; exact Finset.mem_singleton_self _)
      () () nL rfl (amount_send CO CL c (1, b) ()) (amount_recv CO CL (pr c) (1, b) ()) O rfl (W := W)
      (by rw [payload_send]; exact BI.Entails.refl _)
      (by rw [payload_recv, landL CL hC c (pr c) b fd]; show _ ⊢ lPt (pr c) 1 b (CL (pr (pr c))); rw [pr_pr])) $$ [Hs Hd HO Ht1 Hr1 Ht2 Hr2]
  · isplitr; · iexact H1
    isplitr; · iexact H2
    isplitl [Hs]; · iexact Hs
    isplitl [Hd]; · iexact Hd
    isplitl [HO]; · iexact HO
    isplitl [Ht1]; · iexact Ht1
    isplitl [Hr1]; · iexact Hr1
    isplitl [Ht2]; · iexact Ht2
    iexact Hr2
  iexact Hk

/-- A wait for the own copy to have left: its rows of slot 0 come back. -/
theorem step_wait_send {α : Type} (Q : α → sProp 𝕄) (x : Lane) (sm : DmaSem sig) (hs : sm = sendS x) {w : TpuEff nD τ sig (Elt F) Λ₀ .tc PUnit} {k' : ℕ}
    (hw : ∀ Kt : PUnit → sProp 𝕄, wpE (defs₀ (F := F)) 𝒱₀ (c : Thread nD τ) none Set.univ w Kt = waitSpec (c : Thread nD τ) Set.univ (.dma sm) k' Kt)
    (hk : k' = amt x.1) (W : Waits sig Unit) (k : PUnit → Prog (TpuEff nD τ sig (Elt F) Λ₀ .tc) α) :
    iprop(invs CO CL K c ∗ cred (tallyAt (sendCell c x) () (amt x.1)) ∗ owes (c : Thread nD τ) 0 W ∗ atPos ER (sendCell c x) 0 ∅ 0
        ∗ ((∃ W, owes (c : Thread nD τ) 0 W) ∗ atPos ER (sendCell c x) 1 ∅ 0 ∗ sendPay CO CL c x
            -∗ wp frame (wpE (defs₀ (F := F)) 𝒱₀ (c : Thread nD τ) none) Set.univ (k ⟨⟩) Q))
      ⊢ wp frame (wpE (defs₀ (F := F)) 𝒱₀ (c : Thread nD τ) none) Set.univ (.op w k) Q := by
  subst hs hk
  iintro ⟨#HI, Hc, HO, Ha, Hk⟩
  ihave #HI' := (invs_lane CO CL K c x) $$ HI
  icases HI' with ⟨#H1, #H2, -⟩
  iapply (Rounds.wp_wait_rest_token 𝒱₀ ER (talkRd CO CL) (c : Thread nD τ) none (κ := K (sendCell c x)) hw (Set.mem_univ _) ()
      (O := 0) (W := W) (R := 0) (m := 0) (T := ∅) ((Nat.zero_add _).trans (expect_send CO CL c x).symm)) $$ [Hc HO Ha]
  · isplitr; · iexact H1
    isplitl [Hc]; · iexact Hc
    isplitl [HO]; · iexact HO
    isplitr; · rw [MayWait_zero]; iempintro
    iexact Ha
  iintro ⟨HO, Ha, -, Hpay⟩
  ihave Hp := (Entails.of_eq (rest_send CO CL c x)) $$ Hpay
  iapply Hk
  isplitl [HO]; · iexists _; iexact HO
  isplitl [Ha]; · iexact Ha
  iexact Hp

/-- A wait for the peer's copy to have arrived: the own rows of slot 1 come back, at what the peer packed. -/
theorem step_wait_recv {α : Type} (Q : α → sProp 𝕄) (x : Lane) (sm : DmaSem sig) (hs : sm = recvS x) {w : TpuEff nD τ sig (Elt F) Λ₀ .tc PUnit} {k' : ℕ}
    (hw : ∀ Kt : PUnit → sProp 𝕄, wpE (defs₀ (F := F)) 𝒱₀ (c : Thread nD τ) none Set.univ w Kt = waitSpec (c : Thread nD τ) Set.univ (.dma sm) k' Kt)
    (hk : k' = amt x.1) (W : Waits sig Unit) (k : PUnit → Prog (TpuEff nD τ sig (Elt F) Λ₀ .tc) α) :
    iprop(invs CO CL K c ∗ cred (tallyAt (recvCell c x) () (amt x.1)) ∗ owes (c : Thread nD τ) 0 W ∗ atPos ER (recvCell c x) 0 ∅ 0
        ∗ ((∃ W, owes (c : Thread nD τ) 0 W) ∗ atPos ER (recvCell c x) 1 ∅ 0 ∗ recvPay CO CL c x
            -∗ wp frame (wpE (defs₀ (F := F)) 𝒱₀ (c : Thread nD τ) none) Set.univ (k ⟨⟩) Q))
      ⊢ wp frame (wpE (defs₀ (F := F)) 𝒱₀ (c : Thread nD τ) none) Set.univ (.op w k) Q := by
  subst hs hk
  iintro ⟨#HI, Hc, HO, Ha, Hk⟩
  ihave #HI' := (invs_lane CO CL K c x) $$ HI
  icases HI' with ⟨#H1, #H2, -⟩
  iapply (Rounds.wp_wait_rest_token 𝒱₀ ER (talkRd CO CL) (c : Thread nD τ) none (κ := K (recvCell c x)) hw (Set.mem_univ _) ()
      (O := 0) (W := W) (R := 0) (m := 0) (T := ∅) ((Nat.zero_add _).trans (expect_recv CO CL c x).symm)) $$ [Hc HO Ha]
  · isplitr; · iexact H2
    isplitl [Hc]; · iexact Hc
    isplitl [HO]; · iexact HO
    isplitr; · rw [MayWait_zero]; iempintro
    iexact Ha
  iintro ⟨HO, Ha, -, Hpay⟩
  ihave Hp := (Entails.of_eq (rest_recv CO CL c x)) $$ Hpay
  iapply Hk
  isplitl [HO]; · iexists _; iexact HO
  isplitl [Ha]; · iexact Ha
  iexact Hp

end Steps

end Cert.KernelIdeal.Proof

end
-- ==== Proof.KernelIdeal.Pack.lean ====
/-
  Packing: the last chunk of a batch entry writes its eight rows of each communication buffer, a head a row.

  - `row_packO`, `row_packL`: what the body computes for a row is that row of `packO`, `packL` of the accumulators.
  - `packs_o`, `packs_l`: after the eight writes the batch entry's rows hold `packO`, `packL`.
-/
module

public import proofs.«01_k».proof.Proof.KernelIdeal.Talk

@[expose] public section

set_option maxRecDepth 16384

noncomputable section

namespace Cert.KernelIdeal.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pointwise Cert.KernelIdeal.Gen

variable {F : FTy → Type} [FloatOps F] [Named F]
local notation "𝕄" => MT nD τ sig Unit (Elt F) ℕ UU ℕ

/-- Row `n` of `o_comm`, as the body computes it from the accumulator: the packed rows' row `n`. -/
theorem row_packO (a : OAcc F) (n g h : ℕ) (inb) (inbS) (h1) (h2) (h3)
    (hn : n < 32) (hg : g = n % 8 / 4) (hh : h = n % 4) (x : S1x1x32x128.Idx) :
    shapeCast S1x1x32x128 (truncf (F := F) .bf16 (shapeCast S32x128
      (View.readAt (Elt F) (Memref.whole cc0_scratch0).view (⟨![g, h, 0], S1x32x128.size, ![1, 4, 1], inbS⟩ : LoadRect S2x128x128) a) h1) h2) h3 x
    = packO a ((Rect.unit (s := S2x32x32x128) ![0, n, 0, 0] S1x1x32x128.size inb).emb x) := by
  subst hg hh
  obtain ⟨x0, x1, x2, x3, rfl⟩ : ∃ (x0 x1 : Fin 1) (x2 : Fin 32) (x3 : Fin 128), x = ix4 x0 x1 x2 x3 := ⟨x 0, x 1, x 2, x 3, eq_ix4 x⟩
  refine (shapeCast_apply _ h3 _ (ix2 x2 x3) ?_).trans ?_
  · rw [Shape.rowMajor_val_two, Shape.rowMajor_val_four]
    show x2.val * 128 + x3.val = ((x0.val * 1 + x1.val) * 32 + x2.val) * 128 + x3.val
    omega
  refine ((congrArg (FloatOps.truncf .bf16 h2)) (Idealize.ShloMosaic.shapeCast_apply _ h1 _ (ix3 (0 : Fin 1) x2 x3) ?_)).trans ?_
  · refine (Shape.rowMajor_val_three (d := ![1, 32, 128]) (ix3 (0 : Fin 1) x2 x3)).trans ?_
    rw [Shape.rowMajor_val_two]
    show (0 * 32 + x2.val) * 128 + x3.val = x2.val * 128 + x3.val
    omega
  refine congrArg (FloatOps.truncf .bf16 h2) (congrArg a (funext fun i => Fin.ext ?_))
  have e1 : n + 1 * x1.val = n := by omega
  fin_cases i
  · show n % 8 / 4 + 1 * 0 = (n + 1 * x1.val) % 8 / 4
    omega
  · show n % 4 + 4 * x2.val = 4 * (0 + 1 * x2.val) + (n + 1 * x1.val) % 4
    omega
  · show 0 + 1 * x3.val = 0 + 1 * x3.val
    rfl
/-- Row `n` of `l_comm`, as the body computes it from the accumulator: the packed rows' row `n`. -/
theorem row_packL (a : LAcc F) (n g h : ℕ) (inb) (inbS) (h1) (h3)
    (hn : n < 32) (hg : g = n % 8 / 4) (hh : h = n % 4) (x : S1x1x32x1.Idx) :
    shapeCast S1x1x32x1 (shapeCast S32x1
      (View.readAt (Elt F) (Memref.whole cc0_scratch1).view (⟨![g, h, 0], S1x32x1.size, ![1, 4, 1], inbS⟩ : LoadRect S2x128x1) a) h1) h3 x
    = packL a ((Rect.unit (s := S2x32x32x1) ![0, n, 0, 0] S1x1x32x1.size inb).emb x) := by
  subst hg hh
  obtain ⟨x0, x1, x2, x3, rfl⟩ : ∃ (x0 x1 : Fin 1) (x2 : Fin 32) (x3 : Fin 1), x = ix4 x0 x1 x2 x3 := ⟨x 0, x 1, x 2, x 3, eq_ix4 x⟩
  refine (shapeCast_apply _ h3 _ (ix2 x2 x3) ?_).trans ?_
  · rw [Shape.rowMajor_val_two, Shape.rowMajor_val_four]
    show x2.val * 1 + x3.val = ((x0.val * 1 + x1.val) * 32 + x2.val) * 1 + x3.val
    omega
  refine (shapeCast_apply _ h1 _ (ix3 (0 : Fin 1) x2 x3) ?_).trans ?_
  · refine (Shape.rowMajor_val_three (d := ![1, 32, 1]) (ix3 (0 : Fin 1) x2 x3)).trans ?_
    rw [Shape.rowMajor_val_two]
    show (0 * 32 + x2.val) * 1 + x3.val = x2.val * 1 + x3.val
    omega
  refine (congrArg a (funext fun i => Fin.ext ?_))
  have e1 : n + 1 * x1.val = n := by omega
  fin_cases i
  · show n % 8 / 4 + 1 * 0 = (n + 1 * x1.val) % 8 / 4
    omega
  · show n % 4 + 4 * x2.val = 4 * (0 + 1 * x2.val) + (n + 1 * x1.val) % 4
    omega
  · show 0 + 1 * x3.val = 0 + 1 * x3.val
    rfl

/-- Row `j` of a batch entry as the body reads it off the accumulator. -/
def readO (a : OAcc F) (j : Fin 8) : S1x1x32x128.Idx → Elt F .bf16 :=
  shapeCast S1x1x32x128 (truncf (F := F) .bf16 (shapeCast S32x128
    (View.readAt (Elt F) (Memref.whole cc0_scratch0).view (⟨![j.val / 4, j.val % 4, 0], S1x32x128.size, ![1, 4, 1],
      (by decide +kernel : ∀ (j : Fin 8) (a : Fin 3), S1x32x128.size a = 0 ∨ (![j.val / 4, j.val % 4, 0] : Fin 3 → ℕ) a + (![1, 4, 1] : Fin 3 → ℕ) a * (S1x32x128.size a - 1) < S2x128x128.size a) j⟩ : LoadRect S2x128x128) a)
      shapeCasts_S1x32x128_S32x128) bitsLt_bf16_f32) shapeCasts_S32x128_S1x1x32x128
def readL (a : LAcc F) (j : Fin 8) : S1x1x32x1.Idx → Elt F .f32 :=
  shapeCast S1x1x32x1 (shapeCast S32x1
    (View.readAt (Elt F) (Memref.whole cc0_scratch1).view (⟨![j.val / 4, j.val % 4, 0], S1x32x1.size, ![1, 4, 1],
      (by decide +kernel : ∀ (j : Fin 8) (a : Fin 3), S1x32x1.size a = 0 ∨ (![j.val / 4, j.val % 4, 0] : Fin 3 → ℕ) a + (![1, 4, 1] : Fin 3 → ℕ) a * (S1x32x1.size a - 1) < S2x128x1.size a) j⟩ : LoadRect S2x128x1) a)
      shapeCasts_S1x32x1_S32x1) shapeCasts_S32x1_S1x1x32x1

/-! ## A batch entry's rows of slot 0, as part of the whole buffer -/

theorem set_oRow (b : Fin 4) : (oRow 0 b).view.set
    = (Memref.whole cc0_scratch2).view.setOn (Rect.unit (s := S2x32x32x128) ![0, 8 * b.val, 0, 0] S1x8x32x128.size (rowsO_inb 0 b)).set :=
  (View.set_reshape _ _).trans (View.set_slice _ _)
theorem oPt_at (c : Dev nD) (b : Fin 4) (n : ℕ) (hn : n = 8 * b.val)
    (inb : ∀ a, (![0, n, 0, 0] : Fin 4 → ℕ) a + S1x8x32x128.size a ≤ S2x32x32x128.size a) (f : OBuf F) :
    (oPt c 0 b f : sProp 𝕄) = ((Memref.whole cc0_scratch2).view.loc (c : Thread nD τ)
      ↦[(Memref.whole cc0_scratch2).view.setOn (Rect.unit (s := S2x32x32x128) ![0, n, 0, 0] S1x8x32x128.size inb).set]{fullShare} f) := by
  subst hn
  exact congrArg (fun S => ((Memref.whole cc0_scratch2).view.loc (c : Thread nD τ) ↦[S]{fullShare} f : sProp 𝕄)) (set_oRow b)
theorem oPt_congr (c : Dev nD) (s : Fin 2) (b : Fin 4) (f g : OBuf F) (h : ∀ i : S2x32x32x128.Idx, (i 0).val = s.val → (i 1).val / 8 = b.val → f i = g i) :
    (oPt c s b f : sProp 𝕄) = oPt c s b g :=
  pointsTo_congr fun i hi => h i ((mem_oRow s b i).mp hi).1 ((mem_oRow s b i).mp hi).2
theorem set_lRow (b : Fin 4) : (lRow 0 b).view.set
    = (Memref.whole cc0_scratch3).view.setOn (Rect.unit (s := S2x32x32x1) ![0, 8 * b.val, 0, 0] S1x8x32x1.size (rowsL_inb 0 b)).set :=
  (View.set_reshape _ _).trans (View.set_slice _ _)
theorem lPt_at (c : Dev nD) (b : Fin 4) (n : ℕ) (hn : n = 8 * b.val)
    (inb : ∀ a, (![0, n, 0, 0] : Fin 4 → ℕ) a + S1x8x32x1.size a ≤ S2x32x32x1.size a) (f : LBuf F) :
    (lPt c 0 b f : sProp 𝕄) = ((Memref.whole cc0_scratch3).view.loc (c : Thread nD τ)
      ↦[(Memref.whole cc0_scratch3).view.setOn (Rect.unit (s := S2x32x32x1) ![0, n, 0, 0] S1x8x32x1.size inb).set]{fullShare} f) := by
  subst hn
  exact congrArg (fun S => ((Memref.whole cc0_scratch3).view.loc (c : Thread nD τ) ↦[S]{fullShare} f : sProp 𝕄)) (set_lRow b)
theorem lPt_congr (c : Dev nD) (s : Fin 2) (b : Fin 4) (f g : LBuf F) (h : ∀ i : S2x32x32x1.Idx, (i 0).val = s.val → (i 1).val / 8 = b.val → f i = g i) :
    (lPt c s b f : sProp 𝕄) = lPt c s b g :=
  pointsTo_congr fun i hi => h i ((mem_lRow s b i).mp hi).1 ((mem_lRow s b i).mp hi).2

/-! ## The eight writes -/

theorem rowO1_inb (b : Fin 4) (j : Fin 8) : ∀ a, (![0, 8 * b.val + j.val, 0, 0] : Fin 4 → ℕ) a + S1x1x32x128.size a ≤ S2x32x32x128.size a := by
  revert b j; decide
/-- One of the eight rows of batch entry `b`, in slot 0 of `o_comm`. -/
abbrev rowO1 (b : Fin 4) (j : Fin 8) : Rect S2x32x32x128 :=
  Rect.unit (s := S2x32x32x128) ![0, 8 * b.val + j.val, 0, 0] S1x1x32x128.size (rowO1_inb b j)
theorem cover_rowO1 (b : Fin 4) (i : S2x32x32x128.Idx) (h0 : (i 0).val = 0) (h1 : (i 1).val / 8 = b.val) :
    i ∈ (rowO1 b ⟨(i 1).val % 8, Nat.mod_lt _ (by decide)⟩).set := by
  have h2 : (i 2).val < 32 := (i 2).isLt
  have h3 : (i 3).val < 128 := (i 3).isLt
  rw [Rect.mem_set_unit]
  intro a
  fin_cases a <;> simp <;> omega
theorem readO_row (a : OAcc F) (b : Fin 4) (j : Fin 8) (x : S1x1x32x128.Idx) : readO a j x = packO a ((rowO1 b j).emb x) := by
  have hb := b.isLt
  have hj := j.isLt
  exact row_packO a (8 * b.val + j.val) _ _ _ _ _ _ _ (by omega) (by omega) (by omega) x

/-- Eight writes, one for each row: the batch entry's rows hold the packed accumulator. -/
theorem packs_o (c : Dev nD) (b : Fin 4) (a : OAcc F) (f g : OBuf F) (w : Fin 8 → S1x1x32x128.Idx → Elt F .bf16)
    (hw : ∀ j x, w j x = packO a ((rowO1 b j).emb x))
    (hg : ∀ i : S2x32x32x128.Idx, (i 0).val = 0 → (i 1).val / 8 = b.val → packO a i = g i) :
    (oPt c 0 b ((Memref.whole cc0_scratch2).view.writes (Elt F) f
      [⟨rowO1 b 7, w 7⟩, ⟨rowO1 b 6, w 6⟩, ⟨rowO1 b 5, w 5⟩, ⟨rowO1 b 4, w 4⟩, ⟨rowO1 b 3, w 3⟩, ⟨rowO1 b 2, w 2⟩,
        ⟨rowO1 b 1, w 1⟩, ⟨rowO1 b 0, w 0⟩]) : sProp 𝕄) = oPt c 0 b g := by
  refine oPt_congr c 0 b _ _ fun i h0 h1 => Eq.trans ?_ (hg i h0 h1)
  have hm : ∀ j : Fin 8, (⟨rowO1 b j, w j⟩ : View.Piece (Elt F) S2x32x32x128 .bf16) ∈ ([⟨rowO1 b 7, w 7⟩, ⟨rowO1 b 6, w 6⟩, ⟨rowO1 b 5, w 5⟩,
      ⟨rowO1 b 4, w 4⟩, ⟨rowO1 b 3, w 3⟩, ⟨rowO1 b 2, w 2⟩, ⟨rowO1 b 1, w 1⟩, ⟨rowO1 b 0, w 0⟩] : List (View.Piece (Elt F) S2x32x32x128 .bf16)) := by
    intro j; fin_cases j <;> simp
  refine writes_whole_apply (b := cc0_scratch2) (packO a) f _ ?_ i ⟨_, hm ⟨(i 1).val % 8, Nat.mod_lt _ (by decide)⟩, cover_rowO1 b i h0 h1⟩
  intro p hp
  simp only [List.mem_cons, List.not_mem_nil, or_false] at hp
  rcases hp with rfl | rfl | rfl | rfl | rfl | rfl | rfl | rfl <;> exact hw _

theorem rowL1_inb (b : Fin 4) (j : Fin 8) : ∀ a, (![0, 8 * b.val + j.val, 0, 0] : Fin 4 → ℕ) a + S1x1x32x1.size a ≤ S2x32x32x1.size a := by
  revert b j; decide
/-- One of the eight rows of batch entry `b`, in slot 0 of `l_comm`. -/
abbrev rowL1 (b : Fin 4) (j : Fin 8) : Rect S2x32x32x1 :=
  Rect.unit (s := S2x32x32x1) ![0, 8 * b.val + j.val, 0, 0] S1x1x32x1.size (rowL1_inb b j)
theorem cover_rowL1 (b : Fin 4) (i : S2x32x32x1.Idx) (h0 : (i 0).val = 0) (h1 : (i 1).val / 8 = b.val) :
    i ∈ (rowL1 b ⟨(i 1).val % 8, Nat.mod_lt _ (by decide)⟩).set := by
  have h2 : (i 2).val < 32 := (i 2).isLt
  have h3 : (i 3).val < 1 := (i 3).isLt
  rw [Rect.mem_set_unit]
  intro a
  fin_cases a <;> simp <;> omega
theorem readL_row (a : LAcc F) (b : Fin 4) (j : Fin 8) (x : S1x1x32x1.Idx) : readL a j x = packL a ((rowL1 b j).emb x) := by
  have hb := b.isLt
  have hj := j.isLt
  exact row_packL a (8 * b.val + j.val) _ _ _ _ _ _ (by omega) (by omega) (by omega) x

/-- Eight writes, one for each row: the batch entry's rows hold the packed accumulator. -/
theorem packs_l (c : Dev nD) (b : Fin 4) (a : LAcc F) (f g : LBuf F) (w : Fin 8 → S1x1x32x1.Idx → Elt F .f32)
    (hw : ∀ j x, w j x = packL a ((rowL1 b j).emb x))
    (hg : ∀ i : S2x32x32x1.Idx, (i 0).val = 0 → (i 1).val / 8 = b.val → packL a i = g i) :
    (lPt c 0 b ((Memref.whole cc0_scratch3).view.writes (Elt F) f
      [⟨rowL1 b 7, w 7⟩, ⟨rowL1 b 6, w 6⟩, ⟨rowL1 b 5, w 5⟩, ⟨rowL1 b 4, w 4⟩, ⟨rowL1 b 3, w 3⟩, ⟨rowL1 b 2, w 2⟩,
        ⟨rowL1 b 1, w 1⟩, ⟨rowL1 b 0, w 0⟩]) : sProp 𝕄) = lPt c 0 b g := by
  refine lPt_congr c 0 b _ _ fun i h0 h1 => Eq.trans ?_ (hg i h0 h1)
  have hm : ∀ j : Fin 8, (⟨rowL1 b j, w j⟩ : View.Piece (Elt F) S2x32x32x1 .f32) ∈ ([⟨rowL1 b 7, w 7⟩, ⟨rowL1 b 6, w 6⟩, ⟨rowL1 b 5, w 5⟩,
      ⟨rowL1 b 4, w 4⟩, ⟨rowL1 b 3, w 3⟩, ⟨rowL1 b 2, w 2⟩, ⟨rowL1 b 1, w 1⟩, ⟨rowL1 b 0, w 0⟩] : List (View.Piece (Elt F) S2x32x32x1 .f32)) := by
    intro j; fin_cases j <;> simp
  refine writes_whole_apply (b := cc0_scratch3) (packL a) f _ ?_ i ⟨_, hm ⟨(i 1).val % 8, Nat.mod_lt _ (by decide)⟩, cover_rowL1 b i h0 h1⟩
  intro p hp
  simp only [List.mem_cons, List.not_mem_nil, or_false] at hp
  rcases hp with rfl | rfl | rfl | rfl | rfl | rfl | rfl | rfl <;> exact hw _

end Cert.KernelIdeal.Proof

end
-- ==== Proof.KernelIdeal.Body.lean ====
/-
  The body at a grid point, one theorem for each way its conditions fall. Here: the helpers, and the points that only add one
  more chunk to the accumulators.
-/
module

public import proofs.«01_k».proof.Proof.KernelIdeal.Pack

@[expose] public section

set_option maxRecDepth 16384

noncomputable section

namespace Cert.KernelIdeal.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pointwise Cert.KernelIdeal.Gen

variable {F : FTy → Type} [FloatOps F] [Named F]
local notation "𝕄" => MT nD τ sig Unit (Elt F) ℕ UU ℕ

/-- The point is the first chunk of its batch entry. -/
abbrev cond2 (i : grid0.Coords) : Prop :=
  Scalar.cmpi .ne (Scalar.extui (Scalar.cmpi .eq (BitVec.ofNat 32 (i 1).val) 0#32)) 0#32 = 1#1
/-- The body as a grid point runs it: the staged blocks, and the scratches whole. -/
abbrev bodyOf (i : grid0.Coords) (arg2 : Memref sig .tc .vmem S1x32x8x128 .bf16) (harg2 : arg2.IsWhole)
    (arg3 : Memref sig .tc .vmem S1x1024x8x128 .bf16) (harg3 : arg3.IsWhole)
    (arg4 : Memref sig .tc .vmem S1x1024x8x128 .bf16) (harg4 : arg4.IsWhole)
    (arg5 : Memref sig .tc .vmem S32x32x128 .f32) (harg5 : arg5.IsWhole) : Prog (TpuEff nD τ sig (Elt F) Λ₀ .tc) PUnit :=
  cc0_body i arg2 harg2 arg3 harg3 arg4 harg4 arg5 harg5 (Memref.whole cc0_scratch0) (Memref.isWhole_whole _)
          (Memref.whole cc0_scratch1) (Memref.isWhole_whole _) (Memref.whole cc0_scratch2) (Memref.isWhole_whole _)
          (Memref.whole cc0_scratch3) (Memref.isWhole_whole _) cc0_scratch4 cc0_scratch5

theorem acc_stepO (c : Dev nD) (q : QBlk F) (k v : KBlk F) (a a' : OAcc F) (w1 w0 : S1x128x128.Idx → Elt F .f32)
    (L : List (View.Piece (Elt F) S2x128x128 .f32))
    (h1 : w1 = addO (grpQ 1 q) (grpK 1 k) (grpK 1 v) (grpO 1 a)) (h0 : w0 = addO (grpQ 0 q) (grpK 0 k) (grpK 0 v) (grpO 0 a)) :
    (accO c ((Memref.whole cc0_scratch0).view.writes (Elt F) a' (⟨rO 1, w1⟩ :: ⟨rO 0, w0⟩ :: L)) : sProp 𝕄) ⊢ accO c (stepO q k v a) :=
  Entails.of_eq (congrArg (accO c) (writes_stepO q k v a a' w1 w0 L h1 h0))
theorem acc_stepL (c : Dev nD) (q : QBlk F) (k : KBlk F) (a a' : LAcc F) (w1 w0 : S1x128x1.Idx → Elt F .f32)
    (L : List (View.Piece (Elt F) S2x128x1 .f32))
    (h1 : w1 = addL (grpQ 1 q) (grpK 1 k) (grpL 1 a)) (h0 : w0 = addL (grpQ 0 q) (grpK 0 k) (grpL 0 a)) :
    (accL c ((Memref.whole cc0_scratch1).view.writes (Elt F) a' (⟨rL 1, w1⟩ :: ⟨rL 0, w0⟩ :: L)) : sProp 𝕄) ⊢ accL c (stepL q k a) :=
  Entails.of_eq (congrArg (accL c) (writes_stepL q k a a' w1 w0 L h1 h0))

theorem pack_o (c : Dev nD) (b : Fin 4) (a : OAcc F) (f g : OBuf F) (w : Fin 8 → S1x1x32x128.Idx → Elt F .bf16)
    (hw : ∀ j x, w j x = packO a ((rowO1 b j).emb x))
    (hg : ∀ i : S2x32x32x128.Idx, (i 0).val = 0 → (i 1).val / 8 = b.val → packO a i = g i) :
    (oPt c 0 b ((Memref.whole cc0_scratch2).view.writes (Elt F) f
      [⟨rowO1 b 7, w 7⟩, ⟨rowO1 b 6, w 6⟩, ⟨rowO1 b 5, w 5⟩, ⟨rowO1 b 4, w 4⟩, ⟨rowO1 b 3, w 3⟩, ⟨rowO1 b 2, w 2⟩,
        ⟨rowO1 b 1, w 1⟩, ⟨rowO1 b 0, w 0⟩]) : sProp 𝕄) ⊢ oPt c 0 b g := Entails.of_eq (packs_o c b a f g w hw hg)
theorem pack_l (c : Dev nD) (b : Fin 4) (a : LAcc F) (f g : LBuf F) (w : Fin 8 → S1x1x32x1.Idx → Elt F .f32)
    (hw : ∀ j x, w j x = packL a ((rowL1 b j).emb x))
    (hg : ∀ i : S2x32x32x1.Idx, (i 0).val = 0 → (i 1).val / 8 = b.val → packL a i = g i) :
    (lPt c 0 b ((Memref.whole cc0_scratch3).view.writes (Elt F) f
      [⟨rowL1 b 7, w 7⟩, ⟨rowL1 b 6, w 6⟩, ⟨rowL1 b 5, w 5⟩, ⟨rowL1 b 4, w 4⟩, ⟨rowL1 b 3, w 3⟩, ⟨rowL1 b 2, w 2⟩,
        ⟨rowL1 b 1, w 1⟩, ⟨rowL1 b 0, w 0⟩]) : sProp 𝕄) ⊢ lPt c 0 b g := Entails.of_eq (packs_l c b a f g w hw hg)
theorem dueFrom_split (c : Dev nD) (b : Fin 4) : dueFrom c b.val
    = dueFrom c (b.val + 1) + tallyAt (recvCell (pr c) (1, b)) () nL + tallyAt (recvCell (pr c) (0, b)) () nO := by
  rw [dueFrom_peel, dueOf, add_assoc]

/-- What a packing point of batch entry `b` works with beside its blocks and accumulators. -/
def packPre (CO : Dev nD → OBuf F) (CL : Dev nD → LBuf F) (K : GSem nD τ sig → ℕ) (c : Dev nD) (b : Fin 4) : sProp 𝕄 :=
  iprop((∃ f, oPt c 0 b f) ∗ (∃ f, lPt c 0 b f) ∗ ticket c (0, b) ∗ ticket c (1, b) ∗ lent (pr c) b)
/-- What it leaves: the credits for the waits on its two send cells. -/
def packPost (c : Dev nD) (b : Fin 4) : sProp 𝕄 :=
  iprop(cred (tallyAt (sendCell c (0, b)) () nO) ∗ cred (tallyAt (sendCell c (1, b)) () nL))

set_option maxHeartbeats 2000000 in
/-- A middle chunk: the accumulators take one more step. -/
theorem mid_run (c : Dev nD) (i : grid0.Coords)
    (arg2 : Memref sig .tc .vmem S1x32x8x128 .bf16) (harg2 : arg2.IsWhole)
    (arg3 : Memref sig .tc .vmem S1x1024x8x128 .bf16) (harg3 : arg3.IsWhole)
    (arg4 : Memref sig .tc .vmem S1x1024x8x128 .bf16) (harg4 : arg4.IsWhole)
    (arg5 : Memref sig .tc .vmem S32x32x128 .f32) (harg5 : arg5.IsWhole)
    (q : QBlk F) (k v : KBlk F)
    (fO : OAcc F) (fL : LAcc F)
    (h1 : ¬ k0_cond1 i = 1#1) (h2 : ¬ cond2 i) (h3 : ¬ k0_cond3 i = 1#1) (h4 : ¬ k0_cond4 i = 1#1) (h5 : ¬ k0_cond5 i = 1#1)
    (h6 : ¬ k0_cond6 i = 1#1) (h7 : ¬ k0_cond7 i = 1#1) (Kt : PUnit → sProp 𝕄) :
    iprop(blkPt c arg2 arg3 arg4 q k v ∗ accPt c fO fL
      ∗ (blkPt c arg2 arg3 arg4 q k v ∗ accPt c (stepO q k v fO) (stepL q k fL) -∗ Kt ⟨⟩))
      ⊢ wp frame (wpE (defs₀ (F := F)) 𝒱₀ c none) Set.univ
        (bodyOf i arg2 harg2 arg3 harg3 arg4 harg4 arg5 harg5) Kt := by
  have hq0 := ld_Q arg2 0 q
  have hq1 := ld_Q arg2 1 q
  have hk0 := ld_K arg3 0 k
  have hk1 := ld_K arg3 1 k
  have hv0 := ld_K arg4 0 v
  have hv1 := ld_K arg4 1 v
  have ha0 := ld_O 0 fO
  have ha1 := ld_O 1 fO
  have hl0 := ld_L 0 fL
  have hl1 := ld_L 1 fL
  unfold bodyOf
  rw [cc0_body_eq_skeleton]
  unfold blkPt accPt
  iintro ⟨⟨Hq, Hk, Hv⟩, ⟨HO, HL⟩, Hkt⟩
  sl_unfold [cc0_body_skel, k0_part24_eq_skeleton, k0_part24_skel, k0_part25_eq_skeleton, k0_part25_skel,
    k0_part26_eq_skeleton, k0_part26_skel, k0_part27_eq_skeleton, k0_part27_skel]
  sl_exec
  sl_step
  iapply Hkt
  isplitl [Hq Hk Hv]
  · isplitl [Hq]; · iexact Hq
    isplitl [Hk]; · iexact Hk
    iexact Hv
  · rw [← writes_stepO q k v fO fO _ _ [] rfl rfl,
      ← writes_stepL q k fL fL _ _ [] rfl rfl]
    isplitl [HO]
    · iexact HO
    · iexact HL

end Cert.KernelIdeal.Proof

end
-- ==== Proof.KernelIdeal.BodyPack.lean ====
/-
  The body at the last chunk of a batch entry other than the last: the accumulators take one more step, their rows are packed
  into slot 0 of the communication buffers, and the two copies to the peer start.
-/
module

public import proofs.«01_k».proof.Proof.KernelIdeal.Body

@[expose] public section

set_option maxRecDepth 16384

noncomputable section

namespace Cert.KernelIdeal.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pointwise Cert.KernelIdeal.Gen

variable {F : FTy → Type} [FloatOps F] [Named F]
local notation "𝕄" => MT nD τ sig Unit (Elt F) ℕ UU ℕ

set_option maxHeartbeats 2000000 in
/-- The last chunk of batch entry 0: one more step, the rows packed from the accumulators, and the two copies to the peer. -/
theorem pack_run0 (CO : Dev nD → OBuf F) (CL : Dev nD → LBuf F) (hCO : SlotFreeO CO) (hCL : SlotFreeL CL) (K : GSem nD τ sig → ℕ)
    (c : Dev nD) (i : grid0.Coords)
    (arg2 : Memref sig .tc .vmem S1x32x8x128 .bf16) (harg2 : arg2.IsWhole)
    (arg3 : Memref sig .tc .vmem S1x1024x8x128 .bf16) (harg3 : arg3.IsWhole)
    (arg4 : Memref sig .tc .vmem S1x1024x8x128 .bf16) (harg4 : arg4.IsWhole)
    (arg5 : Memref sig .tc .vmem S32x32x128 .f32) (harg5 : arg5.IsWhole)
    (q : QBlk F) (k v : KBlk F) (fO : OAcc F) (fL : LAcc F) (W : Waits sig Unit)
    (h1 : ¬ k0_cond1 i = 1#1) (h2 : ¬ cond2 i) (h3 : k0_cond3 i = 1#1) (h4 : ¬ k0_cond4 i = 1#1) (h5 : ¬ k0_cond5 i = 1#1)
    (h6 : ¬ k0_cond6 i = 1#1) (h7 : ¬ k0_cond7 i = 1#1)
    (hpO : ∀ i : S2x32x32x128.Idx, (i 0).val = 0 → (i 1).val / 8 = (0 : Fin 4).val → packO (stepO q k v fO) i = CO c i)
    (hpL : ∀ i : S2x32x32x1.Idx, (i 0).val = 0 → (i 1).val / 8 = (0 : Fin 4).val → packL (stepL q k fL) i = CL c i)
    (Kt : PUnit → sProp 𝕄) :
    iprop(invs CO CL K c ∗ blkPt c arg2 arg3 arg4 q k v ∗ accPt c fO fL ∗ packPre CO CL K c 0 ∗ owes (c : Thread nD τ) (dueFrom c 0) W
      ∗ (blkPt c arg2 arg3 arg4 q k v ∗ accPt c (stepO q k v fO) (stepL q k fL) ∗ packPost c 0 ∗ owes (c : Thread nD τ) (dueFrom c 1) W -∗ Kt ⟨⟩))
      ⊢ wp frame (wpE (defs₀ (F := F)) 𝒱₀ c none) Set.univ (bodyOf i arg2 harg2 arg3 harg3 arg4 harg4 arg5 harg5) Kt := by
  have hq0 := ld_Q arg2 0 q
  have hq1 := ld_Q arg2 1 q
  have hk0 := ld_K arg3 0 k
  have hk1 := ld_K arg3 1 k
  have hv0 := ld_K arg4 0 v
  have hv1 := ld_K arg4 1 v
  have ha0 := ld_O 0 fO
  have ha1 := ld_O 1 fO
  have hl0 := ld_L 0 fL
  have hl1 := ld_L 1 fL
  unfold bodyOf
  rw [cc0_body_eq_skeleton]
  unfold blkPt accPt packPre lent
  iintro ⟨#HI, ⟨Hq, Hk, Hv⟩, ⟨HO, HL⟩, ⟨⟨%o0, Ho⟩, ⟨%l0, Hl⟩, HtO, HtL, Hdo, Hdl, HrO, HrL⟩, Hw, Hkt⟩
  sl_unfold [cc0_body_skel, k0_part24_eq_skeleton, k0_part24_skel, k0_part25_eq_skeleton, k0_part25_skel,
    k0_part26_eq_skeleton, k0_part26_skel, k0_part27_eq_skeleton, k0_part27_skel, k0_part1_eq_skeleton, k0_part1_skel, k0_part2_eq_skeleton, k0_part2_skel, k0_part3_eq_skeleton, k0_part3_skel, k0_part4_eq_skeleton, k0_part4_skel]
  set_option sl_exec.stopBefore "k0_cond3" in sl_exec
  ihave HO := (acc_stepO c q k v fO fO _ _ [] rfl rfl) $$ [HO]
  · iexact HO
  ihave HL := (acc_stepL c q k fL fL _ _ [] rfl rfl) $$ [HL]
  · iexact HL
  ihave Ho := (Entails.of_eq (oPt_at c 0 0 rfl inb_S2x32x32x128_S1x8x32x128_0_0_0_0 o0)) $$ Ho
  ihave Hl := (Entails.of_eq (lPt_at c 0 0 rfl inb_S2x32x32x1_S1x8x32x1_0_0_0_0 l0)) $$ Hl
  sl_exec
  ihave Ho := (pack_o c 0 (stepO q k v fO) o0 (CO c) (readO (stepO q k v fO)) (readO_row _ 0) hpO) $$ [Ho]
  · iapply (Entails.of_eq (oPt_at c 0 0 rfl inb_S2x32x32x128_S1x8x32x128_0_0_0_0 _).symm)
    iexact Ho
  ihave Hl := (pack_l c 0 (stepL q k fL) l0 (CL c) (readL (stepL q k fL)) (readL_row _ 0) hpL) $$ [Hl]
  · iapply (Entails.of_eq (lPt_at c 0 0 rfl inb_S2x32x32x1_S1x8x32x1_0_0_0_0 _).symm)
    iexact Hl
  iapply (step_sendO CO CL K c _ hCO 0 ⟨k0_dev2 c, k0_dev2_lt i c h3⟩ (Fin.ext (dev2_val c)) _ _ rfl rfl _ _ rfl rfl
    (dueFrom c 1 + tallyAt (recvCell (pr c) (1, 0)) () nL) W)
  isplitr; · iexact HI
  isplitl [Ho]; · iexact Ho
  isplitl [Hdo]; · iexact Hdo
  isplitl [Hw]
  · iapply (Entails.of_eq (congrArg (fun O => owes (c : Thread nD τ) O W) (show dueFrom c 0 = dueFrom c 1 + _ + _ from dueFrom_split c 0)))
    iexact Hw
  isplitl [HtO]; · iexact HtO
  isplitl [HrO]; · iexact HrO
  iintro ⟨HcO, Hw⟩
  sl_exec
  iapply (step_sendL CO CL K c _ hCL 0 ⟨k0_dev3 c, k0_dev3_lt i c h3⟩ (Fin.ext (dev3_val c)) _ _ rfl rfl _ _ rfl rfl (dueFrom c 1) W)
  isplitr; · iexact HI
  isplitl [Hl]; · iexact Hl
  isplitl [Hdl]; · iexact Hdl
  isplitl [Hw]; · iexact Hw
  isplitl [HtL]; · iexact HtL
  isplitl [HrL]; · iexact HrL
  iintro ⟨HcL, Hw⟩
  sl_exec
  sl_step
  iapply Hkt
  unfold packPost
  isplitl [Hq Hk Hv]
  · isplitl [Hq]; · iexact Hq
    isplitl [Hk] <;> iassumption
  isplitl [HO HL]
  · isplitl [HO] <;> iassumption
  isplitl [HcO HcL]
  · isplitl [HcO] <;> iassumption
  iexact Hw

set_option maxHeartbeats 2000000 in
/-- The last chunk of batch entry 1: one more step, the rows packed from the accumulators, and the two copies to the peer. -/
theorem pack_run1 (CO : Dev nD → OBuf F) (CL : Dev nD → LBuf F) (hCO : SlotFreeO CO) (hCL : SlotFreeL CL) (K : GSem nD τ sig → ℕ)
    (c : Dev nD) (i : grid0.Coords)
    (arg2 : Memref sig .tc .vmem S1x32x8x128 .bf16) (harg2 : arg2.IsWhole)
    (arg3 : Memref sig .tc .vmem S1x1024x8x128 .bf16) (harg3 : arg3.IsWhole)
    (arg4 : Memref sig .tc .vmem S1x1024x8x128 .bf16) (harg4 : arg4.IsWhole)
    (arg5 : Memref sig .tc .vmem S32x32x128 .f32) (harg5 : arg5.IsWhole)
    (q : QBlk F) (k v : KBlk F) (fO : OAcc F) (fL : LAcc F) (W : Waits sig Unit)
    (h1 : ¬ k0_cond1 i = 1#1) (h2 : ¬ cond2 i) (h3 : ¬ k0_cond3 i = 1#1) (h4 : k0_cond4 i = 1#1) (h5 : ¬ k0_cond5 i = 1#1)
    (h6 : ¬ k0_cond6 i = 1#1) (h7 : ¬ k0_cond7 i = 1#1)
    (hpO : ∀ i : S2x32x32x128.Idx, (i 0).val = 0 → (i 1).val / 8 = (1 : Fin 4).val → packO (stepO q k v fO) i = CO c i)
    (hpL : ∀ i : S2x32x32x1.Idx, (i 0).val = 0 → (i 1).val / 8 = (1 : Fin 4).val → packL (stepL q k fL) i = CL c i)
    (Kt : PUnit → sProp 𝕄) :
    iprop(invs CO CL K c ∗ blkPt c arg2 arg3 arg4 q k v ∗ accPt c fO fL ∗ packPre CO CL K c 1 ∗ owes (c : Thread nD τ) (dueFrom c 1) W
      ∗ (blkPt c arg2 arg3 arg4 q k v ∗ accPt c (stepO q k v fO) (stepL q k fL) ∗ packPost c 1 ∗ owes (c : Thread nD τ) (dueFrom c 2) W -∗ Kt ⟨⟩))
      ⊢ wp frame (wpE (defs₀ (F := F)) 𝒱₀ c none) Set.univ (bodyOf i arg2 harg2 arg3 harg3 arg4 harg4 arg5 harg5) Kt := by
  have hq0 := ld_Q arg2 0 q
  have hq1 := ld_Q arg2 1 q
  have hk0 := ld_K arg3 0 k
  have hk1 := ld_K arg3 1 k
  have hv0 := ld_K arg4 0 v
  have hv1 := ld_K arg4 1 v
  have ha0 := ld_O 0 fO
  have ha1 := ld_O 1 fO
  have hl0 := ld_L 0 fL
  have hl1 := ld_L 1 fL
  unfold bodyOf
  rw [cc0_body_eq_skeleton]
  unfold blkPt accPt packPre lent
  iintro ⟨#HI, ⟨Hq, Hk, Hv⟩, ⟨HO, HL⟩, ⟨⟨%o0, Ho⟩, ⟨%l0, Hl⟩, HtO, HtL, Hdo, Hdl, HrO, HrL⟩, Hw, Hkt⟩
  sl_unfold [cc0_body_skel, k0_part24_eq_skeleton, k0_part24_skel, k0_part25_eq_skeleton, k0_part25_skel,
    k0_part26_eq_skeleton, k0_part26_skel, k0_part27_eq_skeleton, k0_part27_skel, k0_part5_eq_skeleton, k0_part5_skel, k0_part6_eq_skeleton, k0_part6_skel, k0_part7_eq_skeleton, k0_part7_skel, k0_part8_eq_skeleton, k0_part8_skel]
  set_option sl_exec.stopBefore "k0_cond4" in sl_exec
  ihave HO := (acc_stepO c q k v fO fO _ _ [] rfl rfl) $$ [HO]
  · iexact HO
  ihave HL := (acc_stepL c q k fL fL _ _ [] rfl rfl) $$ [HL]
  · iexact HL
  ihave Ho := (Entails.of_eq (oPt_at c 1 8 rfl inb_S2x32x32x128_S1x8x32x128_0_8_0_0 o0)) $$ Ho
  ihave Hl := (Entails.of_eq (lPt_at c 1 8 rfl inb_S2x32x32x1_S1x8x32x1_0_8_0_0 l0)) $$ Hl
  sl_exec
  ihave Ho := (pack_o c 1 (stepO q k v fO) o0 (CO c) (readO (stepO q k v fO)) (readO_row _ 1) hpO) $$ [Ho]
  · iapply (Entails.of_eq (oPt_at c 1 8 rfl inb_S2x32x32x128_S1x8x32x128_0_8_0_0 _).symm)
    iexact Ho
  ihave Hl := (pack_l c 1 (stepL q k fL) l0 (CL c) (readL (stepL q k fL)) (readL_row _ 1) hpL) $$ [Hl]
  · iapply (Entails.of_eq (lPt_at c 1 8 rfl inb_S2x32x32x1_S1x8x32x1_0_8_0_0 _).symm)
    iexact Hl
  iapply (step_sendO CO CL K c _ hCO 1 ⟨k0_dev4 c, k0_dev4_lt i c h4⟩ (Fin.ext (dev4_val c)) _ _ rfl rfl _ _ rfl rfl
    (dueFrom c 2 + tallyAt (recvCell (pr c) (1, 1)) () nL) W)
  isplitr; · iexact HI
  isplitl [Ho]; · iexact Ho
  isplitl [Hdo]; · iexact Hdo
  isplitl [Hw]
  · iapply (Entails.of_eq (congrArg (fun O => owes (c : Thread nD τ) O W) (show dueFrom c 1 = dueFrom c 2 + _ + _ from dueFrom_split c 1)))
    iexact Hw
  isplitl [HtO]; · iexact HtO
  isplitl [HrO]; · iexact HrO
  iintro ⟨HcO, Hw⟩
  sl_exec
  iapply (step_sendL CO CL K c _ hCL 1 ⟨k0_dev5 c, k0_dev5_lt i c h4⟩ (Fin.ext (dev5_val c)) _ _ rfl rfl _ _ rfl rfl (dueFrom c 2) W)
  isplitr; · iexact HI
  isplitl [Hl]; · iexact Hl
  isplitl [Hdl]; · iexact Hdl
  isplitl [Hw]; · iexact Hw
  isplitl [HtL]; · iexact HtL
  isplitl [HrL]; · iexact HrL
  iintro ⟨HcL, Hw⟩
  sl_exec
  sl_step
  iapply Hkt
  unfold packPost
  isplitl [Hq Hk Hv]
  · isplitl [Hq]; · iexact Hq
    isplitl [Hk] <;> iassumption
  isplitl [HO HL]
  · isplitl [HO] <;> iassumption
  isplitl [HcO HcL]
  · isplitl [HcO] <;> iassumption
  iexact Hw

set_option maxHeartbeats 2000000 in
/-- The last chunk of batch entry 2: one more step, the rows packed from the accumulators, and the two copies to the peer. -/
theorem pack_run2 (CO : Dev nD → OBuf F) (CL : Dev nD → LBuf F) (hCO : SlotFreeO CO) (hCL : SlotFreeL CL) (K : GSem nD τ sig → ℕ)
    (c : Dev nD) (i : grid0.Coords)
    (arg2 : Memref sig .tc .vmem S1x32x8x128 .bf16) (harg2 : arg2.IsWhole)
    (arg3 : Memref sig .tc .vmem S1x1024x8x128 .bf16) (harg3 : arg3.IsWhole)
    (arg4 : Memref sig .tc .vmem S1x1024x8x128 .bf16) (harg4 : arg4.IsWhole)
    (arg5 : Memref sig .tc .vmem S32x32x128 .f32) (harg5 : arg5.IsWhole)
    (q : QBlk F) (k v : KBlk F) (fO : OAcc F) (fL : LAcc F) (W : Waits sig Unit)
    (h1 : ¬ k0_cond1 i = 1#1) (h2 : ¬ cond2 i) (h3 : ¬ k0_cond3 i = 1#1) (h4 : ¬ k0_cond4 i = 1#1) (h5 : k0_cond5 i = 1#1)
    (h6 : ¬ k0_cond6 i = 1#1) (h7 : ¬ k0_cond7 i = 1#1)
    (hpO : ∀ i : S2x32x32x128.Idx, (i 0).val = 0 → (i 1).val / 8 = (2 : Fin 4).val → packO (stepO q k v fO) i = CO c i)
    (hpL : ∀ i : S2x32x32x1.Idx, (i 0).val = 0 → (i 1).val / 8 = (2 : Fin 4).val → packL (stepL q k fL) i = CL c i)
    (Kt : PUnit → sProp 𝕄) :
    iprop(invs CO CL K c ∗ blkPt c arg2 arg3 arg4 q k v ∗ accPt c fO fL ∗ packPre CO CL K c 2 ∗ owes (c : Thread nD τ) (dueFrom c 2) W
      ∗ (blkPt c arg2 arg3 arg4 q k v ∗ accPt c (stepO q k v fO) (stepL q k fL) ∗ packPost c 2 ∗ owes (c : Thread nD τ) (dueFrom c 3) W -∗ Kt ⟨⟩))
      ⊢ wp frame (wpE (defs₀ (F := F)) 𝒱₀ c none) Set.univ (bodyOf i arg2 harg2 arg3 harg3 arg4 harg4 arg5 harg5) Kt := by
  have hq0 := ld_Q arg2 0 q
  have hq1 := ld_Q arg2 1 q
  have hk0 := ld_K arg3 0 k
  have hk1 := ld_K arg3 1 k
  have hv0 := ld_K arg4 0 v
  have hv1 := ld_K arg4 1 v
  have ha0 := ld_O 0 fO
  have ha1 := ld_O 1 fO
  have hl0 := ld_L 0 fL
  have hl1 := ld_L 1 fL
  unfold bodyOf
  rw [cc0_body_eq_skeleton]
  unfold blkPt accPt packPre lent
  iintro ⟨#HI, ⟨Hq, Hk, Hv⟩, ⟨HO, HL⟩, ⟨⟨%o0, Ho⟩, ⟨%l0, Hl⟩, HtO, HtL, Hdo, Hdl, HrO, HrL⟩, Hw, Hkt⟩
  sl_unfold [cc0_body_skel, k0_part24_eq_skeleton, k0_part24_skel, k0_part25_eq_skeleton, k0_part25_skel,
    k0_part26_eq_skeleton, k0_part26_skel, k0_part27_eq_skeleton, k0_part27_skel, k0_part9_eq_skeleton, k0_part9_skel, k0_part10_eq_skeleton, k0_part10_skel, k0_part11_eq_skeleton, k0_part11_skel, k0_part12_eq_skeleton, k0_part12_skel]
  set_option sl_exec.stopBefore "k0_cond5" in sl_exec
  ihave HO := (acc_stepO c q k v fO fO _ _ [] rfl rfl) $$ [HO]
  · iexact HO
  ihave HL := (acc_stepL c q k fL fL _ _ [] rfl rfl) $$ [HL]
  · iexact HL
  ihave Ho := (Entails.of_eq (oPt_at c 2 16 rfl inb_S2x32x32x128_S1x8x32x128_0_16_0_0 o0)) $$ Ho
  ihave Hl := (Entails.of_eq (lPt_at c 2 16 rfl inb_S2x32x32x1_S1x8x32x1_0_16_0_0 l0)) $$ Hl
  sl_exec
  ihave Ho := (pack_o c 2 (stepO q k v fO) o0 (CO c) (readO (stepO q k v fO)) (readO_row _ 2) hpO) $$ [Ho]
  · iapply (Entails.of_eq (oPt_at c 2 16 rfl inb_S2x32x32x128_S1x8x32x128_0_16_0_0 _).symm)
    iexact Ho
  ihave Hl := (pack_l c 2 (stepL q k fL) l0 (CL c) (readL (stepL q k fL)) (readL_row _ 2) hpL) $$ [Hl]
  · iapply (Entails.of_eq (lPt_at c 2 16 rfl inb_S2x32x32x1_S1x8x32x1_0_16_0_0 _).symm)
    iexact Hl
  iapply (step_sendO CO CL K c _ hCO 2 ⟨k0_dev6 c, k0_dev6_lt i c h5⟩ (Fin.ext (dev6_val c)) _ _ rfl rfl _ _ rfl rfl
    (dueFrom c 3 + tallyAt (recvCell (pr c) (1, 2)) () nL) W)
  isplitr; · iexact HI
  isplitl [Ho]; · iexact Ho
  isplitl [Hdo]; · iexact Hdo
  isplitl [Hw]
  · iapply (Entails.of_eq (congrArg (fun O => owes (c : Thread nD τ) O W) (show dueFrom c 2 = dueFrom c 3 + _ + _ from dueFrom_split c 2)))
    iexact Hw
  isplitl [HtO]; · iexact HtO
  isplitl [HrO]; · iexact HrO
  iintro ⟨HcO, Hw⟩
  sl_exec
  iapply (step_sendL CO CL K c _ hCL 2 ⟨k0_dev7 c, k0_dev7_lt i c h5⟩ (Fin.ext (dev7_val c)) _ _ rfl rfl _ _ rfl rfl (dueFrom c 3) W)
  isplitr; · iexact HI
  isplitl [Hl]; · iexact Hl
  isplitl [Hdl]; · iexact Hdl
  isplitl [Hw]; · iexact Hw
  isplitl [HtL]; · iexact HtL
  isplitl [HrL]; · iexact HrL
  iintro ⟨HcL, Hw⟩
  sl_exec
  sl_step
  iapply Hkt
  unfold packPost
  isplitl [Hq Hk Hv]
  · isplitl [Hq]; · iexact Hq
    isplitl [Hk] <;> iassumption
  isplitl [HO HL]
  · isplitl [HO] <;> iassumption
  isplitl [HcO HcL]
  · isplitl [HcO] <;> iassumption
  iexact Hw

end Cert.KernelIdeal.Proof

end
-- ==== Proof.KernelIdeal.BodyFirst.lean ====
/-
# The body at the first point of a batch entry

The accumulators are cleared before the step; at the very first point the two devices of a pair also meet at their barriers.
-/
module
public import proofs.«01_k».proof.Proof.KernelIdeal.Body

@[expose] public section

set_option maxRecDepth 16384

noncomputable section

namespace Cert.KernelIdeal.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pointwise Cert.KernelIdeal.Gen

variable {F : FTy → Type} [FloatOps F] [Named F]
local notation "𝕄" => MT nD τ sig Unit (Elt F) ℕ UU ℕ

/-- The accumulator of weighted values written whole. -/
theorem zero_O (c : Dev nD) (f : OAcc F) (w : OAcc F) :
    (accO c ((Memref.whole cc0_scratch0).view.writes (Elt F) f [⟨Rect.unit (s := S2x128x128) ![0, 0, 0] S2x128x128.size inb_S2x128x128_S2x128x128_0_0_0, w⟩]) : sProp 𝕄)
      ⊢ accO c w := by
  have e : ∀ y : S2x128x128.Idx, (Rect.unit (s := S2x128x128) ![0, 0, 0] S2x128x128.size inb_S2x128x128_S2x128x128_0_0_0).emb y = y := fun y => by
    funext a
    refine Fin.ext ?_
    fin_cases a
    · show 0 + 1 * (y 0).val = (y 0).val; omega
    · show 0 + 1 * (y 1).val = (y 1).val; omega
    · show 0 + 1 * (y 2).val = (y 2).val; omega
  have hw : (Memref.whole cc0_scratch0).view.writes (Elt F) f [⟨Rect.unit (s := S2x128x128) ![0, 0, 0] S2x128x128.size inb_S2x128x128_S2x128x128_0_0_0, w⟩] = w :=
    funext fun y => writes_whole_apply (b := cc0_scratch0) w f _
      (fun p hp => by rw [List.mem_singleton.mp hp]; exact fun x => (congrArg w (e x)).symm) y
      ⟨_, List.mem_singleton_self _, by
        show y ∈ (Rect.unit (s := S2x128x128) ![0, 0, 0] S2x128x128.size inb_S2x128x128_S2x128x128_0_0_0).set
        rw [Rect.mem_set_unit]
        have h0 := (y 0).isLt
        have h1 := (y 1).isLt
        have h2 := (y 2).isLt
        intro a
        fin_cases a
        exacts [⟨Nat.zero_le _, h0⟩, ⟨Nat.zero_le _, h1⟩, ⟨Nat.zero_le _, h2⟩]⟩
  rw [hw]

/-- The accumulator of weights written whole. -/
theorem zero_L (c : Dev nD) (f : LAcc F) (w : LAcc F) :
    (accL c ((Memref.whole cc0_scratch1).view.writes (Elt F) f [⟨Rect.unit (s := S2x128x1) ![0, 0, 0] S2x128x1.size inb_S2x128x1_S2x128x1_0_0_0, w⟩]) : sProp 𝕄)
      ⊢ accL c w := by
  have e : ∀ y : S2x128x1.Idx, (Rect.unit (s := S2x128x1) ![0, 0, 0] S2x128x1.size inb_S2x128x1_S2x128x1_0_0_0).emb y = y := fun y => by
    funext a
    refine Fin.ext ?_
    fin_cases a
    · show 0 + 1 * (y 0).val = (y 0).val; omega
    · show 0 + 1 * (y 1).val = (y 1).val; omega
    · show 0 + 1 * (y 2).val = (y 2).val; omega
  have hw : (Memref.whole cc0_scratch1).view.writes (Elt F) f [⟨Rect.unit (s := S2x128x1) ![0, 0, 0] S2x128x1.size inb_S2x128x1_S2x128x1_0_0_0, w⟩] = w :=
    funext fun y => writes_whole_apply (b := cc0_scratch1) w f _
      (fun p hp => by rw [List.mem_singleton.mp hp]; exact fun x => (congrArg w (e x)).symm) y
      ⟨_, List.mem_singleton_self _, by
        show y ∈ (Rect.unit (s := S2x128x1) ![0, 0, 0] S2x128x1.size inb_S2x128x1_S2x128x1_0_0_0).set
        rw [Rect.mem_set_unit]
        have h0 := (y 0).isLt
        have h1 := (y 1).isLt
        have h2 := (y 2).isLt
        intro a
        fin_cases a
        exacts [⟨Nat.zero_le _, h0⟩, ⟨Nat.zero_le _, h1⟩, ⟨Nat.zero_le _, h2⟩]⟩
  rw [hw]

set_option maxHeartbeats 1600000 in
/-- The first point of a batch entry other than the first: the accumulators are cleared and one step is taken from zero. -/
theorem first_run (c : Dev nD) (i : grid0.Coords)
    (arg2 : Memref sig .tc .vmem S1x32x8x128 .bf16) (harg2 : arg2.IsWhole)
    (arg3 : Memref sig .tc .vmem S1x1024x8x128 .bf16) (harg3 : arg3.IsWhole)
    (arg4 : Memref sig .tc .vmem S1x1024x8x128 .bf16) (harg4 : arg4.IsWhole)
    (arg5 : Memref sig .tc .vmem S32x32x128 .f32) (harg5 : arg5.IsWhole)
    (q : QBlk F) (k v : KBlk F)
    (fO : OAcc F) (fL : LAcc F)
    (h1 : ¬ k0_cond1 i = 1#1) (h2 : cond2 i) (h3 : ¬ k0_cond3 i = 1#1) (h4 : ¬ k0_cond4 i = 1#1) (h5 : ¬ k0_cond5 i = 1#1)
    (h6 : ¬ k0_cond6 i = 1#1) (h7 : ¬ k0_cond7 i = 1#1) (Kt : PUnit → sProp 𝕄) :
    iprop(blkPt c arg2 arg3 arg4 q k v ∗ accPt c fO fL
      ∗ (blkPt c arg2 arg3 arg4 q k v ∗ accPt c (stepO q k v (k0_pay76 (F := F))) (stepL q k (k0_pay77 (F := F))) -∗ Kt ⟨⟩))
      ⊢ wp frame (wpE (defs₀ (F := F)) 𝒱₀ c none) Set.univ
        (bodyOf i arg2 harg2 arg3 harg3 arg4 harg4 arg5 harg5) Kt := by
  have hq0 := ld_Q arg2 0 q
  have hq1 := ld_Q arg2 1 q
  have hk0 := ld_K arg3 0 k
  have hk1 := ld_K arg3 1 k
  have hv0 := ld_K arg4 0 v
  have hv1 := ld_K arg4 1 v
  have ha0 := ld_O 0 (k0_pay76 (F := F))
  have ha1 := ld_O 1 (k0_pay76 (F := F))
  have hl0 := ld_L 0 (k0_pay77 (F := F))
  have hl1 := ld_L 1 (k0_pay77 (F := F))
  unfold bodyOf
  rw [cc0_body_eq_skeleton]
  unfold blkPt accPt
  iintro ⟨⟨Hq, Hk, Hv⟩, ⟨HO, HL⟩, Hkt⟩
  sl_unfold [cc0_body_skel, k0_part24_eq_skeleton, k0_part24_skel]
  set_option sl_exec.stopBefore "k0_part25" in sl_exec
  ihave HO := (zero_O c fO (k0_pay76 (F := F))) $$ [HO]
  · iexact HO
  ihave HL := (zero_L c fL (k0_pay77 (F := F))) $$ [HL]
  · iexact HL
  unfold accO accL
  sl_exec
  sl_step
  iapply Hkt
  isplitl [Hq Hk Hv]
  · isplitl [Hq]; · iexact Hq
    isplitl [Hk]; · iexact Hk
    iexact Hv
  isplitl [HO]
  · iapply (acc_stepO c q k v (k0_pay76 (F := F)) (k0_pay76 (F := F)) _ _ [] rfl rfl)
    iexact HO
  · iapply (acc_stepL c q k (k0_pay77 (F := F)) (k0_pay77 (F := F)) _ _ [] rfl rfl)
    iexact HL

set_option maxHeartbeats 1600000 in
/-- The first grid point: the peer's barrier is signalled with this device's landing rows, the own barrier is waited for, the
    accumulators are cleared and one step is taken from zero. -/
theorem start_run (CO : Dev nD → OBuf F) (CL : Dev nD → LBuf F) (K : GSem nD τ sig → ℕ)
    (c : Dev nD) (i : grid0.Coords)
    (arg2 : Memref sig .tc .vmem S1x32x8x128 .bf16) (harg2 : arg2.IsWhole)
    (arg3 : Memref sig .tc .vmem S1x1024x8x128 .bf16) (harg3 : arg3.IsWhole)
    (arg4 : Memref sig .tc .vmem S1x1024x8x128 .bf16) (harg4 : arg4.IsWhole)
    (arg5 : Memref sig .tc .vmem S32x32x128 .f32) (harg5 : arg5.IsWhole)
    (q : QBlk F) (k v : KBlk F)
    (fO : OAcc F) (fL : LAcc F)
    (W : Waits sig Unit)
    (h1 : k0_cond1 i = 1#1) (h2 : cond2 i) (h3 : ¬ k0_cond3 i = 1#1) (h4 : ¬ k0_cond4 i = 1#1) (h5 : ¬ k0_cond5 i = 1#1)
    (h6 : ¬ k0_cond6 i = 1#1) (h7 : ¬ k0_cond7 i = 1#1) (Kt : PUnit → sProp 𝕄) :
    iprop(invs CO CL K c ∗ levAts L lv ∗ blkPt c arg2 arg3 arg4 q k v ∗ accPt c fO fL
      ∗ owes (c : Thread nD τ) (dueFrom c 0 + tallyAt (barCell (pr c)) () 1) W ∗ dutyTok ER (barCell (pr c)) 0 ()
      ∗ reached ER (barCell (pr c)) 0 ∗ bigSep (Finset.univ : Finset (Fin 4)) (lent (F := F) c)
      ∗ cred (tallyAt (barCell c) () 1) ∗ atPos ER (barCell c) 0 ∅ 0
      ∗ (blkPt c arg2 arg3 arg4 q k v ∗ accPt c (stepO q k v (k0_pay76 (F := F))) (stepL q k (k0_pay77 (F := F)))
          ∗ (∃ W, owes (c : Thread nD τ) (dueFrom c 0) W) ∗ atPos ER (barCell c) 1 ∅ 0
          ∗ bigSep (Finset.univ : Finset (Fin 4)) (lent (F := F) (pr c)) -∗ Kt ⟨⟩))
      ⊢ wp frame (wpE (defs₀ (F := F)) 𝒱₀ c none) Set.univ
        (bodyOf i arg2 harg2 arg3 harg3 arg4 harg4 arg5 harg5) Kt := by
  have hq0 := ld_Q arg2 0 q
  have hq1 := ld_Q arg2 1 q
  have hk0 := ld_K arg3 0 k
  have hk1 := ld_K arg3 1 k
  have hv0 := ld_K arg4 0 v
  have hv1 := ld_K arg4 1 v
  have ha0 := ld_O 0 (k0_pay76 (F := F))
  have ha1 := ld_O 1 (k0_pay76 (F := F))
  have hl0 := ld_L 0 (k0_pay77 (F := F))
  have hl1 := ld_L 1 (k0_pay77 (F := F))
  unfold bodyOf
  rw [cc0_body_eq_skeleton]
  unfold blkPt accPt
  iintro ⟨#HI, Hlev, ⟨Hq, Hk, Hv⟩, ⟨HO, HL⟩, Ho, Htok, Hre, Hlent, Hcr, Hat, Hkt⟩
  sl_unfold [cc0_body_skel, k0_part24_eq_skeleton, k0_part24_skel]
  sl_exec
  iapply (step_signal CO CL K c _ _ (Fin.ext (dev1_val c)) (dueFrom c 0) W _) $$ [-]
  isplitr; · iexact HI
  isplitl [Ho]; · iexact Ho
  isplitl [Htok]; · iexact Htok
  isplitl [Hre]; · iexact Hre
  isplitl [Hlent]; · iexact Hlent
  iintro Ho
  sl_exec
  iapply (step_wait_bar CO CL K c _ W _) $$ [-]
  isplitr; · iexact HI
  isplitl [Hlev]; · iexact Hlev
  isplitl [Hcr]; · iexact Hcr
  isplitl [Ho]; · iexact Ho
  isplitl [Hat]; · iexact Hat
  iintro ⟨Ho, Hat, Hlent⟩
  set_option sl_exec.stopBefore "k0_part25" in sl_exec
  ihave HO := (zero_O c fO (k0_pay76 (F := F))) $$ [HO]
  · iexact HO
  ihave HL := (zero_L c fL (k0_pay77 (F := F))) $$ [HL]
  · iexact HL
  unfold accO accL
  sl_exec
  sl_step
  iapply Hkt
  isplitl [Hq Hk Hv]
  · isplitl [Hq]; · iexact Hq
    isplitl [Hk]; · iexact Hk
    iexact Hv
  isplitl [HO HL]
  · isplitl [HO]
    · iapply (acc_stepO c q k v (k0_pay76 (F := F)) (k0_pay76 (F := F)) _ _ [] rfl rfl)
      iexact HO
    · iapply (acc_stepL c q k (k0_pay77 (F := F)) (k0_pay77 (F := F)) _ _ [] rfl rfl)
      iexact HL
  isplitl [Ho]; · iexact Ho
  isplitl [Hat]; · iexact Hat
  iexact Hlent

end Cert.KernelIdeal.Proof

end
-- ==== Proof.KernelIdeal.Join.lean ====
/-
  The communication buffers whole and by pieces: slot by slot, batch entry by batch entry. And the waits of the last grid
  point, as what each takes and gives.
-/
module

public import proofs.«01_k».proof.Proof.KernelIdeal.Talk

@[expose] public section

set_option maxRecDepth 16384

noncomputable section

namespace Cert.KernelIdeal.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pointwise Cert.KernelIdeal.Gen

variable {F : FTy → Type} [FloatOps F] [Named F]
local notation "𝕄" => MT nD τ sig Unit (Elt F) ℕ UU ℕ

/-- A buffer that a finite family of disjoint pieces covers is held piece by piece. -/
theorem pieces {T : Type} [Fintype T] {ℓ : Loc nD τ sig} (I : Finset (Idx ℓ)) (P : T → Finset (Idx ℓ)) (f : Buf (Elt F) ℓ)
    (hI : ∀ i, i ∈ I) (hc : ∀ i, ∃ t, i ∈ P t) (hd : ∀ t t' i, i ∈ P t → i ∈ P t' → t = t') :
    (ℓ ↦[I]{fullShare} f : sProp 𝕄) = bigSep (Finset.univ : Finset T) fun t => ℓ ↦[P t]{fullShare} f := by
  classical
  rw [← pointsTo_biUnion (Finset.univ : Finset T) P (fun t _ t' _ h => Finset.disjoint_left.mpr fun i hi hj => h (hd t t' i hi hj))]
  congr 1
  ext i
  exact ⟨fun _ => (hc i).elim fun t ht => Finset.mem_biUnion.mpr ⟨t, Finset.mem_univ _, ht⟩, fun _ => hI i⟩

theorem mem_whole (b : Ref sig .tc) (i : b.ty.shape.Idx) : i ∈ (Memref.whole b).view.set := by
  rw [View.set_whole]; exact Finset.mem_univ i
/-- The elements of one piece. -/
def oSet (x : Fin 2 × Fin 4) : Finset S2x32x32x128.Idx := (oRow x.1 x.2).view.set
theorem oPt_whole (c : Dev nD) (x : Fin 2 × Fin 4) (f : OBuf F) :
    ((Memref.whole cc0_scratch2).view.loc (c : Thread nD τ) ↦[oSet x]{fullShare} f : sProp 𝕄) = oPt c x.1 x.2 f := rfl
theorem mem_oSet (x : Fin 2 × Fin 4) (i : S2x32x32x128.Idx) : i ∈ oSet x ↔ (i 0).val = x.1.val ∧ (i 1).val / 8 = x.2.val := mem_oRow x.1 x.2 i
theorem o_cover (i : S2x32x32x128.Idx) : ∃ x : Fin 2 × Fin 4, i ∈ oSet x := by
  have h1 : (i 1).val < 32 := (i 1).isLt
  exact ⟨(⟨(i 0).val, (i 0).isLt⟩, ⟨(i 1).val / 8, by omega⟩), (mem_oSet _ i).mpr ⟨rfl, rfl⟩⟩
theorem o_disjoint (x y : Fin 2 × Fin 4) (i : S2x32x32x128.Idx) (hx : i ∈ oSet x)
    (hy : i ∈ oSet y) : x = y := by
  rw [mem_oSet] at hx hy
  exact Prod.ext (Fin.ext (by omega)) (Fin.ext (by omega))
/-- The buffer `o_comm` whole is its eight pieces; and `l_comm`. -/
theorem o_pieces (c : Dev nD) (f : OBuf F) :
    ((Memref.whole cc0_scratch2).view.loc (c : Thread nD τ) ↦[(Memref.whole cc0_scratch2).view.set]{fullShare} f : sProp 𝕄)
      = bigSep (Finset.univ : Finset (Fin 2 × Fin 4)) fun x => oPt c x.1 x.2 f :=
  (pieces (ℓ := (Memref.whole cc0_scratch2).view.loc (c : Thread nD τ)) (Memref.whole cc0_scratch2).view.set oSet f
    (mem_whole cc0_scratch2) o_cover o_disjoint).trans (bigSep_congr fun x _ => oPt_whole c x f)
/-- The elements of one piece. -/
def lSet (x : Fin 2 × Fin 4) : Finset S2x32x32x1.Idx := (lRow x.1 x.2).view.set
theorem lPt_whole (c : Dev nD) (x : Fin 2 × Fin 4) (f : LBuf F) :
    ((Memref.whole cc0_scratch3).view.loc (c : Thread nD τ) ↦[lSet x]{fullShare} f : sProp 𝕄) = lPt c x.1 x.2 f := rfl
theorem mem_lSet (x : Fin 2 × Fin 4) (i : S2x32x32x1.Idx) : i ∈ lSet x ↔ (i 0).val = x.1.val ∧ (i 1).val / 8 = x.2.val := mem_lRow x.1 x.2 i
theorem l_cover (i : S2x32x32x1.Idx) : ∃ x : Fin 2 × Fin 4, i ∈ lSet x := by
  have h1 : (i 1).val < 32 := (i 1).isLt
  exact ⟨(⟨(i 0).val, (i 0).isLt⟩, ⟨(i 1).val / 8, by omega⟩), (mem_lSet _ i).mpr ⟨rfl, rfl⟩⟩
theorem l_disjoint (x y : Fin 2 × Fin 4) (i : S2x32x32x1.Idx) (hx : i ∈ lSet x)
    (hy : i ∈ lSet y) : x = y := by
  rw [mem_lSet] at hx hy
  exact Prod.ext (Fin.ext (by omega)) (Fin.ext (by omega))
theorem l_pieces (c : Dev nD) (f : LBuf F) :
    ((Memref.whole cc0_scratch3).view.loc (c : Thread nD τ) ↦[(Memref.whole cc0_scratch3).view.set]{fullShare} f : sProp 𝕄)
      = bigSep (Finset.univ : Finset (Fin 2 × Fin 4)) fun x => lPt c x.1 x.2 f :=
  (pieces (ℓ := (Memref.whole cc0_scratch3).view.loc (c : Thread nD τ)) (Memref.whole cc0_scratch3).view.set lSet f
    (mem_whole cc0_scratch3) l_cover l_disjoint).trans (bigSep_congr fun x _ => lPt_whole c x f)

theorem sep_regroup (P Q R : sProp 𝕄) : iprop(P ∗ Q ∗ R) = iprop((P ∗ Q) ∗ R) := equiv_iff.mp ⟨Idealize.SL.BI.sep_assoc', Idealize.SL.BI.sep_assoc⟩

/-- A separating product over pairs, as one over the second components of a product over the first. -/
theorem sep_lanes (Φ : Fin 2 × Fin 4 → sProp 𝕄) :
    bigSep (Finset.univ : Finset (Fin 2 × Fin 4)) Φ
      = iprop((Φ (0, 0) ∗ Φ (0, 1) ∗ Φ (0, 2) ∗ Φ (0, 3)) ∗ Φ (1, 0) ∗ Φ (1, 1) ∗ Φ (1, 2) ∗ Φ (1, 3)) := by
  rw [bigSep_eq_bigSepL_of_eq [(0, 0), (0, 1), (0, 2), (0, 3), (1, 0), (1, 1), (1, 2), (1, 3)] (by decide) (by decide)]
  show iprop(Φ (0, 0) ∗ Φ (0, 1) ∗ Φ (0, 2) ∗ Φ (0, 3) ∗ Φ (1, 0) ∗ Φ (1, 1) ∗ Φ (1, 2) ∗ Φ (1, 3)) = _
  rw [sep_regroup (Φ (0, 2)), sep_regroup (Φ (0, 1)), sep_regroup (Φ (0, 0))]

/-- What both slots of device `c`'s buffers hold in the end: its own packed rows, and its peer's. -/
def bothO (CO : Dev nD → OBuf F) (c : Dev nD) : OBuf F := fun i : S2x32x32x128.Idx => if (i 0).val = 0 then CO c i else CO (pr c) i
def bothL (CL : Dev nD → LBuf F) (c : Dev nD) : LBuf F := fun i : S2x32x32x1.Idx => if (i 0).val = 0 then CL c i else CL (pr c) i

theorem own_bothO (CO : Dev nD → OBuf F) (c : Dev nD) (b : Fin 4) : (oPt c 0 b (CO c) : sProp 𝕄) = oPt c 0 b (bothO CO c) :=
  pointsTo_congr fun i hi => (if_pos ((mem_oRow 0 b i).mp hi).1).symm
theorem peer_bothO (CO : Dev nD → OBuf F) (c : Dev nD) (b : Fin 4) : (oPt c 1 b (CO (pr c)) : sProp 𝕄) = oPt c 1 b (bothO CO c) :=
  pointsTo_congr fun i hi => (if_neg (fun h => absurd (h.symm.trans ((mem_oRow 1 b i).mp hi).1) (by decide))).symm
theorem own_bothL (CL : Dev nD → LBuf F) (c : Dev nD) (b : Fin 4) : (lPt c 0 b (CL c) : sProp 𝕄) = lPt c 0 b (bothL CL c) :=
  pointsTo_congr fun i hi => (if_pos ((mem_lRow 0 b i).mp hi).1).symm
theorem peer_bothL (CL : Dev nD → LBuf F) (c : Dev nD) (b : Fin 4) : (lPt c 1 b (CL (pr c)) : sProp 𝕄) = lPt c 1 b (bothL CL c) :=
  pointsTo_congr fun i hi => (if_neg (fun h => absurd (h.symm.trans ((mem_lRow 1 b i).mp hi).1) (by decide))).symm

section Waits

variable (CO : Dev nD → OBuf F) (CL : Dev nD → LBuf F) (K : GSem nD τ sig → ℕ) (c : Dev nD)

/-- A wait on a send cell, before and after; on a receive cell. -/
def sendIn (x : Lane) : sProp 𝕄 := iprop(cred (tallyAt (sendCell c x) () (amt x.1)) ∗ atPos ER (sendCell c x) 0 ∅ 0)
def sendOut (x : Lane) : sProp 𝕄 := iprop(atPos ER (sendCell c x) 1 ∅ 0 ∗ sendPay CO CL c x)
def recvIn (x : Lane) : sProp 𝕄 := iprop(cred (tallyAt (recvCell c x) () (amt x.1)) ∗ atPos ER (recvCell c x) 0 ∅ 0)
def recvOut (x : Lane) : sProp 𝕄 := iprop(atPos ER (recvCell c x) 1 ∅ 0 ∗ recvPay CO CL c x)

theorem wait_send {α : Type} (Q : α → sProp 𝕄) (x : Lane) (sm : DmaSem sig) (hs : sm = sendS x) {s : Shape} {e : EltTy}
    {src dst : Memref sig .tc .vmem s e} {w1 : src.view.WordExact} {w2 : dst.view.WordExact} (hk : dst.view.dmaCredit = amt x.1) (k : PUnit → Prog (TpuEff nD τ sig (Elt F) Λ₀ .tc) α) :
    iprop(invs CO CL K c ∗ sendIn c x ∗ (∃ W, owes (c : Thread nD τ) 0 W)
        ∗ ((∃ W, owes (c : Thread nD τ) 0 W) ∗ sendOut CO CL c x
            -∗ wp frame (wpE (defs₀ (F := F)) 𝒱₀ (c : Thread nD τ) none) Set.univ (k ⟨⟩) Q))
      ⊢ wp frame (wpE (defs₀ (F := F)) 𝒱₀ (c : Thread nD τ) none) Set.univ (.op (.waitDma2 sm src dst w1 w2) k) Q := by
  unfold sendIn sendOut
  iintro ⟨HI, ⟨Hc, Ha⟩, ⟨%W, HO⟩, Hk⟩
  iapply (step_wait_send CO CL K c Q x sm hs (wpE_waitDma2_eq 𝒱₀ (c : Thread nD τ) none Set.univ) hk W k)
  isplitl [HI]; · iexact HI
  isplitl [Hc]; · iexact Hc
  isplitl [HO]; · iexact HO
  isplitl [Ha] <;> iassumption
theorem wait_recv {α : Type} (Q : α → sProp 𝕄) (x : Lane) (sm : DmaSem sig) (hs : sm = recvS x) {s : Shape} {e : EltTy}
    {src dst : Memref sig .tc .vmem s e} {w1 : src.view.WordExact} {w2 : dst.view.WordExact} (hk : dst.view.dmaCredit = amt x.1) (k : PUnit → Prog (TpuEff nD τ sig (Elt F) Λ₀ .tc) α) :
    iprop(invs CO CL K c ∗ recvIn c x ∗ (∃ W, owes (c : Thread nD τ) 0 W)
        ∗ ((∃ W, owes (c : Thread nD τ) 0 W) ∗ recvOut CO CL c x
            -∗ wp frame (wpE (defs₀ (F := F)) 𝒱₀ (c : Thread nD τ) none) Set.univ (k ⟨⟩) Q))
      ⊢ wp frame (wpE (defs₀ (F := F)) 𝒱₀ (c : Thread nD τ) none) Set.univ (.op (.waitDma2 sm src dst w1 w2) k) Q := by
  unfold recvIn recvOut
  iintro ⟨HI, ⟨Hc, Ha⟩, ⟨%W, HO⟩, Hk⟩
  iapply (step_wait_recv CO CL K c Q x sm hs (wpE_waitDma2_eq 𝒱₀ (c : Thread nD τ) none Set.univ) hk W k)
  isplitl [HI]; · iexact HI
  isplitl [Hc]; · iexact Hc
  isplitl [HO]; · iexact HO
  isplitl [Ha] <;> iassumption

/-- After all waits the cells are at their ends, and the buffers are back whole. -/
theorem outs_join :
    iprop(bigSep (Finset.univ : Finset Lane) (sendOut CO CL c) ∗ bigSep (Finset.univ : Finset Lane) (recvOut CO CL c))
      ⊢ iprop(bigSep (Finset.univ : Finset Lane) (fun x => iprop(atPos ER (sendCell c x) 1 ∅ 0 ∗ atPos ER (recvCell c x) 1 ∅ 0))
        ∗ ((Memref.whole cc0_scratch2).view.loc (c : Thread nD τ) ↦[(Memref.whole cc0_scratch2).view.set]{fullShare} bothO CO c)
        ∗ ((Memref.whole cc0_scratch3).view.loc (c : Thread nD τ) ↦[(Memref.whole cc0_scratch3).view.set]{fullShare} bothL CL c)) := by
  have es : ∀ b : Fin 4, sendPay CO CL c (0, b) = oPt c 0 b (bothO CO c) := fun b => (if_pos rfl).trans (own_bothO CO c b)
  have es' : ∀ b : Fin 4, sendPay CO CL c (1, b) = lPt c 0 b (bothL CL c) := fun b => (if_neg one_ne_zero).trans (own_bothL CL c b)
  have er : ∀ b : Fin 4, recvPay CO CL c (0, b) = oPt c 1 b (bothO CO c) := fun b => (if_pos rfl).trans (peer_bothO CO c b)
  have er' : ∀ b : Fin 4, recvPay CO CL c (1, b) = lPt c 1 b (bothL CL c) := fun b => (if_neg one_ne_zero).trans (peer_bothL CL c b)
  unfold sendOut recvOut
  rw [bigSep_sep', bigSep_sep', bigSep_sep', o_pieces, l_pieces, sep_lanes (sendPay CO CL c), sep_lanes (recvPay CO CL c),
    sep_lanes (fun x => oPt c x.1 x.2 (bothO CO c)), sep_lanes (fun x => lPt c x.1 x.2 (bothL CL c))]
  simp only [es, es', er, er']
  iintro ⟨⟨Ha, Hso, Hsl⟩, Hb, Hro, Hrl⟩
  isplitl [Ha Hb]
  · isplitl [Ha] <;> iassumption
  isplitl [Hso Hro]
  · isplitl [Hso] <;> iassumption
  · isplitl [Hsl] <;> iassumption

end Waits

end Cert.KernelIdeal.Proof

end
-- ==== Proof.KernelIdeal.BodyLast.lean ====
/-
  The body at the last grid point: the last batch entry is packed and sent, all copies are waited for, and the two slots are
  combined into the output block.
-/
module

public import proofs.«01_k».proof.Proof.KernelIdeal.Body
public import proofs.«01_k».proof.Proof.KernelIdeal.Join

@[expose] public section

set_option maxRecDepth 16384

noncomputable section

namespace Cert.KernelIdeal.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pointwise Cert.KernelIdeal.Gen

variable {F : FTy → Type} [FloatOps F] [Named F]
local notation "𝕄" => MT nD τ sig Unit (Elt F) ℕ UU ℕ

theorem some_waits (c : Dev nD) (W : Waits sig Unit) : (owes (c : Thread nD τ) 0 W : sProp 𝕄) ⊢ iprop(∃ W, owes (c : Thread nD τ) 0 W) := by
  iintro H
  iexists W
  iexact H
theorem sendIn_o (c : Dev nD) (b : Fin 4) :
    iprop(cred (tallyAt (sendCell c (0, b)) () nO) ∗ atPos ER (sendCell c (0, b)) 0 ∅ 0) ⊢ (sendIn c (0, b) : sProp 𝕄) := Entails.refl _
theorem sendIn_l (c : Dev nD) (b : Fin 4) :
    iprop(cred (tallyAt (sendCell c (1, b)) () nL) ∗ atPos ER (sendCell c (1, b)) 0 ∅ 0) ⊢ (sendIn c (1, b) : sProp 𝕄) := Entails.refl _
/-- The output block written whole. -/
theorem out_whole (c : Dev nD) (m : Memref sig .tc .vmem S32x32x128 .f32) (f : m.view.ty.Contents (Elt F)) (g w : S32x32x128.Idx → Elt F .f32) (hw : w = g) :
    (m.view.loc (c : Thread nD τ) ↦[m.view.set]{fullShare}
      m.view.writes (Elt F) f [⟨Rect.unit (s := S32x32x128) ![0, 0, 0] S32x32x128.size inb_S32x32x128_S32x32x128_0_0_0, w⟩] : sProp 𝕄)
      ⊢ m.view.loc (c : Thread nD τ) ↦[m.view.set]{fullShare} m.view.rep g := by
  subst hw
  refine (Entails.of_eq (pointsTo_rep (c : Thread nD τ) m _ fullShare)).trans (Entails.of_eq (congrArg (fun z => (m.view.loc (c : Thread nD τ) ↦[m.view.set]{fullShare} m.view.rep z : sProp 𝕄)) (funext fun y => ?_)))
  have e : (Rect.unit (s := S32x32x128) ![0, 0, 0] S32x32x128.size inb_S32x32x128_S32x32x128_0_0_0).emb y = y := by
    funext a
    refine Fin.ext ?_
    fin_cases a
    · show 0 + 1 * (y 0).val = (y 0).val; omega
    · show 0 + 1 * (y 1).val = (y 1).val; omega
    · show 0 + 1 * (y 2).val = (y 2).val; omega
  have h := View.read_writes_cons_emb m.view f (Rect.unit (s := S32x32x128) ![0, 0, 0] S32x32x128.size inb_S32x32x128_S32x32x128_0_0_0) w [] y
  rw [e] at h
  exact h

set_option maxHeartbeats 2000000 in
/-- The last grid point: one more step, the last batch entry's rows packed and copied, all waits, and the combination of the two
    slots into the output block. -/
theorem last_run (CO : Dev nD → OBuf F) (CL : Dev nD → LBuf F) (hCO : SlotFreeO CO) (hCL : SlotFreeL CL) (K : GSem nD τ sig → ℕ)
    (c : Dev nD) (i : grid0.Coords)
    (arg2 : Memref sig .tc .vmem S1x32x8x128 .bf16) (harg2 : arg2.IsWhole)
    (arg3 : Memref sig .tc .vmem S1x1024x8x128 .bf16) (harg3 : arg3.IsWhole)
    (arg4 : Memref sig .tc .vmem S1x1024x8x128 .bf16) (harg4 : arg4.IsWhole)
    (arg5 : Memref sig .tc .vmem S32x32x128 .f32) (harg5 : arg5.IsWhole)
    (q : QBlk F) (k v : KBlk F) (fO : OAcc F) (fL : LAcc F) (W : Waits sig Unit)
    (h1 : ¬ k0_cond1 i = 1#1) (h2 : ¬ cond2 i) (h3 : ¬ k0_cond3 i = 1#1) (h4 : ¬ k0_cond4 i = 1#1) (h5 : ¬ k0_cond5 i = 1#1)
    (h6 : k0_cond6 i = 1#1) (h7 : k0_cond7 i = 1#1)
    (hpO : ∀ i : S2x32x32x128.Idx, (i 0).val = 0 → (i 1).val / 8 = (3 : Fin 4).val → packO (stepO q k v fO) i = CO c i)
    (hpL : ∀ i : S2x32x32x1.Idx, (i 0).val = 0 → (i 1).val / 8 = (3 : Fin 4).val → packL (stepL q k fL) i = CL c i)
    (Kt : PUnit → sProp 𝕄) :
    iprop(invs CO CL K c ∗ blkPt c arg2 arg3 arg4 q k v ∗ accPt c fO fL ∗ packPre CO CL K c 3 ∗ owes (c : Thread nD τ) (dueFrom c 3) W
      ∗ (packPost c 0 ∗ packPost c 1 ∗ packPost c 2) ∗ bigSep (Finset.univ : Finset Lane) (fun x => atPos ER (sendCell c x) 0 ∅ 0)
      ∗ bigSep (Finset.univ : Finset Lane) (recvIn c) ∗ (∃ g, arg5.view.loc (c : Thread nD τ) ↦[arg5.view.set]{fullShare} arg5.view.rep g)
      ∗ (blkPt c arg2 arg3 arg4 q k v ∗ accPt c (stepO q k v fO) (stepL q k fL) ∗ (∃ W, owes (c : Thread nD τ) 0 W)
          ∗ bigSep (Finset.univ : Finset Lane) (fun x => iprop(atPos ER (sendCell c x) 1 ∅ 0 ∗ atPos ER (recvCell c x) 1 ∅ 0))
          ∗ ((Memref.whole cc0_scratch2).view.loc (c : Thread nD τ) ↦[(Memref.whole cc0_scratch2).view.set]{fullShare} bothO CO c)
          ∗ ((Memref.whole cc0_scratch3).view.loc (c : Thread nD τ) ↦[(Memref.whole cc0_scratch3).view.set]{fullShare} bothL CL c)
          ∗ (arg5.view.loc (c : Thread nD τ) ↦[arg5.view.set]{fullShare} arg5.view.rep (outOf (bothO CO c) (bothL CL c))) -∗ Kt ⟨⟩))
      ⊢ wp frame (wpE (defs₀ (F := F)) 𝒱₀ c none) Set.univ (bodyOf i arg2 harg2 arg3 harg3 arg4 harg4 arg5 harg5) Kt := by
  have hq0 := ld_Q arg2 0 q
  have hq1 := ld_Q arg2 1 q
  have hk0 := ld_K arg3 0 k
  have hk1 := ld_K arg3 1 k
  have hv0 := ld_K arg4 0 v
  have hv1 := ld_K arg4 1 v
  have ha0 := ld_O 0 fO
  have ha1 := ld_O 1 fO
  have hl0 := ld_L 0 fL
  have hl1 := ld_L 1 fL
  have hs0 : View.readAt (Elt F) (Memref.whole cc0_scratch2).view (Rect.unit (s := S2x32x32x128) ![0, 0, 0, 0] S1x32x32x128.size inb_S2x32x32x128_S1x32x32x128_0_0_0_0).toLoadRect (bothO CO c) = slotO 0 (bothO CO c) := rfl
  have hs1 : View.readAt (Elt F) (Memref.whole cc0_scratch2).view (Rect.unit (s := S2x32x32x128) ![1, 0, 0, 0] S1x32x32x128.size inb_S2x32x32x128_S1x32x32x128_1_0_0_0).toLoadRect (bothO CO c) = slotO 1 (bothO CO c) := rfl
  have ht0 : View.readAt (Elt F) (Memref.whole cc0_scratch3).view (Rect.unit (s := S2x32x32x1) ![0, 0, 0, 0] S1x32x32x1.size inb_S2x32x32x1_S1x32x32x1_0_0_0_0).toLoadRect (bothL CL c) = slotL 0 (bothL CL c) := rfl
  have ht1 : View.readAt (Elt F) (Memref.whole cc0_scratch3).view (Rect.unit (s := S2x32x32x1) ![1, 0, 0, 0] S1x32x32x1.size inb_S2x32x32x1_S1x32x32x1_1_0_0_0).toLoadRect (bothL CL c) = slotL 1 (bothL CL c) := rfl
  unfold bodyOf
  rw [cc0_body_eq_skeleton]
  unfold blkPt accPt packPre packPost lent
  rw [sep_lanes (fun x => atPos ER (sendCell c x) 0 ∅ 0), sep_lanes (recvIn c)]
  iintro ⟨#HI, ⟨Hq, Hk, Hv⟩, ⟨HO, HL⟩, ⟨⟨%o0, Ho⟩, ⟨%l0, Hl⟩, HtO, HtL, Hdo, Hdl, HrO, HrL⟩, Hw,
    ⟨⟨Ho0, Hl0⟩, ⟨Ho1, Hl1⟩, ⟨Ho2, Hl2⟩⟩, ⟨⟨S00, S01, S02, S03⟩, S10, S11, S12, S13⟩, ⟨⟨R00, R01, R02, R03⟩, R10, R11, R12, R13⟩, ⟨%g5, H5⟩, Hkt⟩
  sl_unfold [cc0_body_skel, k0_part24_eq_skeleton, k0_part24_skel, k0_part25_eq_skeleton, k0_part25_skel,
    k0_part26_eq_skeleton, k0_part26_skel, k0_part27_eq_skeleton, k0_part27_skel, k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, k0_part23_eq_skeleton, k0_part23_skel, k0_part13_eq_skeleton, k0_part13_skel, k0_part14_eq_skeleton, k0_part14_skel, k0_part15_eq_skeleton, k0_part15_skel, k0_part16_eq_skeleton, k0_part16_skel]
  set_option sl_exec.stopBefore "k0_cond6" in sl_exec
  ihave HO := (acc_stepO c q k v fO fO _ _ [] rfl rfl) $$ [HO]
  · iexact HO
  ihave HL := (acc_stepL c q k fL fL _ _ [] rfl rfl) $$ [HL]
  · iexact HL
  ihave Ho := (Entails.of_eq (oPt_at c 3 24 rfl inb_S2x32x32x128_S1x8x32x128_0_24_0_0 o0)) $$ Ho
  ihave Hl := (Entails.of_eq (lPt_at c 3 24 rfl inb_S2x32x32x1_S1x8x32x1_0_24_0_0 l0)) $$ Hl
  sl_exec
  ihave Ho := (pack_o c 3 (stepO q k v fO) o0 (CO c) (readO (stepO q k v fO)) (readO_row _ 3) hpO) $$ [Ho]
  · iapply (Entails.of_eq (oPt_at c 3 24 rfl inb_S2x32x32x128_S1x8x32x128_0_24_0_0 _).symm)
    iexact Ho
  ihave Hl := (pack_l c 3 (stepL q k fL) l0 (CL c) (readL (stepL q k fL)) (readL_row _ 3) hpL) $$ [Hl]
  · iapply (Entails.of_eq (lPt_at c 3 24 rfl inb_S2x32x32x1_S1x8x32x1_0_24_0_0 _).symm)
    iexact Hl
  iapply (step_sendO CO CL K c _ hCO 3 ⟨k0_dev8 c, k0_dev8_lt i c h6⟩ (Fin.ext (dev8_val c)) _ _ rfl rfl _ _ rfl rfl
    (dueFrom c 4 + tallyAt (recvCell (pr c) (1, 3)) () nL) W)
  isplitr; · iexact HI
  isplitl [Ho]; · iexact Ho
  isplitl [Hdo]; · iexact Hdo
  isplitl [Hw]
  · iapply (Entails.of_eq (congrArg (fun O => owes (c : Thread nD τ) O W) (show dueFrom c 3 = dueFrom c 4 + _ + _ from dueFrom_split c 3)))
    iexact Hw
  isplitl [HtO]; · iexact HtO
  isplitl [HrO]; · iexact HrO
  iintro ⟨HcO, Hw⟩
  sl_exec
  iapply (step_sendL CO CL K c _ hCL 3 ⟨k0_dev9 c, k0_dev9_lt i c h6⟩ (Fin.ext (dev9_val c)) _ _ rfl rfl _ _ rfl rfl (dueFrom c 4) W)
  isplitr; · iexact HI
  isplitl [Hl]; · iexact Hl
  isplitl [Hdl]; · iexact Hdl
  isplitl [Hw]; · iexact Hw
  isplitl [HtL]; · iexact HtL
  isplitl [HrL]; · iexact HrL
  iintro ⟨HcL, Hw⟩
  ihave Hw := (Entails.of_eq (congrArg (fun O => owes (c : Thread nD τ) O W) (dueFrom_four c))) $$ Hw
  ihave Hw := (some_waits c W) $$ Hw
  ihave S00 := (sendIn_o c 0) $$ [Ho0 S00]
  · isplitl [Ho0]; · iexact Ho0
    iexact S00
  ihave S01 := (sendIn_o c 1) $$ [Ho1 S01]
  · isplitl [Ho1]; · iexact Ho1
    iexact S01
  ihave S02 := (sendIn_o c 2) $$ [Ho2 S02]
  · isplitl [Ho2]; · iexact Ho2
    iexact S02
  ihave S03 := (sendIn_o c 3) $$ [HcO S03]
  · isplitl [HcO]; · iexact HcO
    iexact S03
  ihave S10 := (sendIn_l c 0) $$ [Hl0 S10]
  · isplitl [Hl0]; · iexact Hl0
    iexact S10
  ihave S11 := (sendIn_l c 1) $$ [Hl1 S11]
  · isplitl [Hl1]; · iexact Hl1
    iexact S11
  ihave S12 := (sendIn_l c 2) $$ [Hl2 S12]
  · isplitl [Hl2]; · iexact Hl2
    iexact S12
  ihave S13 := (sendIn_l c 3) $$ [HcL S13]
  · isplitl [HcL]; · iexact HcL
    iexact S13
  sl_exec
  iapply (wait_send CO CL K c _ (0, 0) _ rfl (dst := oRow 0 0) rfl _)
  isplitr; · iexact HI
  isplitl [S00]; · iexact S00
  isplitl [Hw]; · iexact Hw
  iintro ⟨Hw, S00⟩
  sl_exec
  iapply (wait_send CO CL K c _ (1, 0) _ rfl (dst := lRow 0 0) rfl _)
  isplitr; · iexact HI
  isplitl [S10]; · iexact S10
  isplitl [Hw]; · iexact Hw
  iintro ⟨Hw, S10⟩
  sl_exec
  iapply (wait_send CO CL K c _ (0, 1) _ rfl (dst := oRow 0 1) rfl _)
  isplitr; · iexact HI
  isplitl [S01]; · iexact S01
  isplitl [Hw]; · iexact Hw
  iintro ⟨Hw, S01⟩
  sl_exec
  iapply (wait_send CO CL K c _ (1, 1) _ rfl (dst := lRow 0 1) rfl _)
  isplitr; · iexact HI
  isplitl [S11]; · iexact S11
  isplitl [Hw]; · iexact Hw
  iintro ⟨Hw, S11⟩
  sl_exec
  iapply (wait_send CO CL K c _ (0, 2) _ rfl (dst := oRow 0 2) rfl _)
  isplitr; · iexact HI
  isplitl [S02]; · iexact S02
  isplitl [Hw]; · iexact Hw
  iintro ⟨Hw, S02⟩
  sl_exec
  iapply (wait_send CO CL K c _ (1, 2) _ rfl (dst := lRow 0 2) rfl _)
  isplitr; · iexact HI
  isplitl [S12]; · iexact S12
  isplitl [Hw]; · iexact Hw
  iintro ⟨Hw, S12⟩
  sl_exec
  iapply (wait_send CO CL K c _ (0, 3) _ rfl (dst := oRow 0 3) rfl _)
  isplitr; · iexact HI
  isplitl [S03]; · iexact S03
  isplitl [Hw]; · iexact Hw
  iintro ⟨Hw, S03⟩
  sl_exec
  iapply (wait_send CO CL K c _ (1, 3) _ rfl (dst := lRow 0 3) rfl _)
  isplitr; · iexact HI
  isplitl [S13]; · iexact S13
  isplitl [Hw]; · iexact Hw
  iintro ⟨Hw, S13⟩
  sl_exec
  iapply (wait_recv CO CL K c _ (0, 0) _ rfl (dst := oRow 1 0) rfl _)
  isplitr; · iexact HI
  isplitl [R00]; · iexact R00
  isplitl [Hw]; · iexact Hw
  iintro ⟨Hw, R00⟩
  sl_exec
  iapply (wait_recv CO CL K c _ (1, 0) _ rfl (dst := lRow 1 0) rfl _)
  isplitr; · iexact HI
  isplitl [R10]; · iexact R10
  isplitl [Hw]; · iexact Hw
  iintro ⟨Hw, R10⟩
  sl_exec
  iapply (wait_recv CO CL K c _ (0, 1) _ rfl (dst := oRow 1 1) rfl _)
  isplitr; · iexact HI
  isplitl [R01]; · iexact R01
  isplitl [Hw]; · iexact Hw
  iintro ⟨Hw, R01⟩
  sl_exec
  iapply (wait_recv CO CL K c _ (1, 1) _ rfl (dst := lRow 1 1) rfl _)
  isplitr; · iexact HI
  isplitl [R11]; · iexact R11
  isplitl [Hw]; · iexact Hw
  iintro ⟨Hw, R11⟩
  sl_exec
  iapply (wait_recv CO CL K c _ (0, 2) _ rfl (dst := oRow 1 2) rfl _)
  isplitr; · iexact HI
  isplitl [R02]; · iexact R02
  isplitl [Hw]; · iexact Hw
  iintro ⟨Hw, R02⟩
  sl_exec
  iapply (wait_recv CO CL K c _ (1, 2) _ rfl (dst := lRow 1 2) rfl _)
  isplitr; · iexact HI
  isplitl [R12]; · iexact R12
  isplitl [Hw]; · iexact Hw
  iintro ⟨Hw, R12⟩
  sl_exec
  iapply (wait_recv CO CL K c _ (0, 3) _ rfl (dst := oRow 1 3) rfl _)
  isplitr; · iexact HI
  isplitl [R03]; · iexact R03
  isplitl [Hw]; · iexact Hw
  iintro ⟨Hw, R03⟩
  sl_exec
  iapply (wait_recv CO CL K c _ (1, 3) _ rfl (dst := lRow 1 3) rfl _)
  isplitr; · iexact HI
  isplitl [R13]; · iexact R13
  isplitl [Hw]; · iexact Hw
  iintro ⟨Hw, R13⟩
  ihave HB := (outs_join CO CL c) $$ [S00 S01 S02 S03 S10 S11 S12 S13 R00 R01 R02 R03 R10 R11 R12 R13]
  · rw [sep_lanes (sendOut CO CL c), sep_lanes (recvOut CO CL c)]
    iframe
  icases HB with ⟨Hat, Hbo, Hbl⟩
  sl_exec
  sl_step
  iapply Hkt
  isplitl [Hq Hk Hv]
  · isplitl [Hq]; · iexact Hq
    isplitl [Hk] <;> iassumption
  isplitl [HO HL]
  · isplitl [HO] <;> iassumption
  isplitl [Hw]; · iexact Hw
  isplitl [Hat]; · iexact Hat
  isplitl [Hbo]; · iexact Hbo
  isplitl [Hbl]; · iexact Hbl
  iapply (out_whole c arg5 (arg5.view.rep g5) (outOf (bothO CO c) (bothL CL c)) _ rfl)
  iexact H5

end Cert.KernelIdeal.Proof

end
-- ==== Proof.KernelIdeal.Data.lean ====
/-
# The contents and the invariant

What every device's accumulators hold before every grid point, what is sent, what the result block is; and what a device holds
between grid points.
-/
module
public import proofs.«01_k».proof.Proof.KernelIdeal.BodyPack
public import proofs.«01_k».proof.Proof.KernelIdeal.BodyFirst
public import proofs.«01_k».proof.Proof.KernelIdeal.BodyLast
public import proofs.«01_k».proof.Proof.Gen.KernelIdeal.Frame

@[expose] public section

set_option maxRecDepth 16384

noncomputable section

namespace Cert.KernelIdeal.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pointwise Cert.KernelIdeal.Gen

variable {F : FTy → Type} [FloatOps F] [Named F]
variable (m : (ℓ : Loc nD τ sig) → Buf (Elt F) ℓ)
local notation "𝕄" => MT nD τ sig Unit (Elt F) ℕ UU ℕ

/-- Grid point number `n`. -/
def ptN (n : ℕ) : Fin cfg0.N := ⟨n % 16, by rw [show cfg0.N = 16 from N_0]; exact Nat.mod_lt _ (by decide)⟩
theorem ptN_val (t : Fin cfg0.N) : ptN t.val = t := by
  have h : t.val < 16 := t.isLt.trans_eq N_0
  exact Fin.ext (Nat.mod_eq_of_lt h)

/-- The blocks of Q, K and V that device `c` is given at point `n`. -/
def qB (c : Dev nD) (n : ℕ) : QBlk F := iblk m c 0 (ptN n)
def kB (c : Dev nD) (n : ℕ) : KBlk F := iblk m c 1 (ptN n)
def vB (c : Dev nD) (n : ℕ) : KBlk F := iblk m c 2 (ptN n)

/-- The accumulators of device `c` before point `n`: cleared at every first chunk, one step a point. -/
def oAt (c : Dev nD) : ℕ → OAcc F
  | 0 => k0_pay76
  | n + 1 => stepO (qB m c n) (kB m c n) (vB m c n) (if n % 4 = 0 then k0_pay76 else oAt c n)
def lAt (c : Dev nD) : ℕ → LAcc F
  | 0 => k0_pay77
  | n + 1 => stepL (qB m c n) (kB m c n) (if n % 4 = 0 then k0_pay77 else lAt c n)

theorem oAt_first (c : Dev nD) (n : ℕ) (h : n % 4 = 0) : oAt m c (n + 1) = stepO (qB m c n) (kB m c n) (vB m c n) k0_pay76 := by
  rw [oAt, if_pos h]
theorem oAt_next (c : Dev nD) (n : ℕ) (h : n % 4 ≠ 0) : oAt m c (n + 1) = stepO (qB m c n) (kB m c n) (vB m c n) (oAt m c n) := by
  rw [oAt, if_neg h]
theorem lAt_first (c : Dev nD) (n : ℕ) (h : n % 4 = 0) : lAt m c (n + 1) = stepL (qB m c n) (kB m c n) k0_pay77 := by
  rw [lAt, if_pos h]
theorem lAt_next (c : Dev nD) (n : ℕ) (h : n % 4 ≠ 0) : lAt m c (n + 1) = stepL (qB m c n) (kB m c n) (lAt m c n) := by
  rw [lAt, if_neg h]

/-- What device `c` packs and sends: batch entry `b`'s rows are read off its accumulators after point `4·b + 3`. -/
def commO (c : Dev nD) : OBuf F := fun i : S2x32x32x128.Idx => packO (oAt m c (4 * ((i 1).val / 8) + 4)) i
def commL (c : Dev nD) : LBuf F := fun i : S2x32x32x1.Idx => packL (lAt m c (4 * ((i 1).val / 8) + 4)) i

theorem commO_free : SlotFreeO (commO m) := fun c i j h1 h2 h3 => by
  unfold commO packO
  have e1 : (i 1 : Fin 32) = j 1 := Fin.ext h1
  have e2 : (i 2 : Fin 32) = j 2 := Fin.ext h2
  have e3 : (i 3 : Fin 128) = j 3 := Fin.ext h3
  rw [e1, e2, e3]
theorem commL_free : SlotFreeL (commL m) := fun c i j h1 h2 h3 => by
  unfold commL packL
  have e1 : (i 1 : Fin 32) = j 1 := Fin.ext h1
  have e2 : (i 2 : Fin 32) = j 2 := Fin.ext h2
  have e3 : (i 3 : Fin 1) = j 3 := Fin.ext h3
  rw [e1, e2, e3]

theorem commO_at (c : Dev nD) (b : Fin 4) (i : S2x32x32x128.Idx) (_ : (i 0).val = 0) (h : (i 1).val / 8 = b.val) :
    packO (stepO (qB m c (4 * b.val + 3)) (kB m c (4 * b.val + 3)) (vB m c (4 * b.val + 3)) (oAt m c (4 * b.val + 3))) i = commO m c i := by
  unfold commO
  rw [h, ← oAt_next m c (4 * b.val + 3) (by omega)]
theorem commL_at (c : Dev nD) (b : Fin 4) (i : S2x32x32x1.Idx) (_ : (i 0).val = 0) (h : (i 1).val / 8 = b.val) :
    packL (stepL (qB m c (4 * b.val + 3)) (kB m c (4 * b.val + 3)) (lAt m c (4 * b.val + 3))) i = commL m c i := by
  unfold commL
  rw [h, ← lAt_next m c (4 * b.val + 3) (by omega)]

/-- The result block of device `c`. -/
def resB (c : Dev nD) : S32x32x128.Idx → Elt F .f32 := outOf (bothO (commO m) c) (bothL (commL m) c)

/-! ## The invariant -/

/-- The rows of slot 0 for batch entry `b`, not packed yet, with the tokens of the two copies. -/
def rows (c : Dev nD) (b : Fin 4) : sProp 𝕄 :=
  iprop((∃ f, oPt c 0 b f) ∗ (∃ f, lPt c 0 b f) ∗ ticket (F := F) c (0, b) ∗ ticket (F := F) c (1, b))
/-- Batch entry `b` when `n` entries have been sent. -/
def bat (K : GSem nD τ sig → ℕ) (c : Dev nD) (n : ℕ) (b : Fin 4) : sProp 𝕄 :=
  if b.val < n then packPost c b else packPre (commO m) (commL m) K c b

/-- The positions and credits that the last point's waits use. -/
def waits (c : Dev nD) : sProp 𝕄 :=
  iprop(bigSep (Finset.univ : Finset Lane) (fun x => atPos ER (sendCell c x) 0 ∅ 0) ∗ bigSep (Finset.univ : Finset Lane) (recvIn (F := F) c))

/-- Before the first point: the barrier not met. -/
def begins (c : Dev nD) : sProp 𝕄 :=
  iprop(levAts L lv ∗ dutyTok ER (barCell (pr c)) 0 () ∗ reached ER (barCell (pr c)) 0 ∗ cred (tallyAt (barCell c) () 1)
    ∗ atPos ER (barCell c) 0 ∅ 0 ∗ waits (F := F) c ∗ bigSep (Finset.univ : Finset (Fin 4)) (rows (F := F) c)
    ∗ bigSep (Finset.univ : Finset (Fin 4)) (lent (F := F) c) ∗ ∃ a l, accPt c a l)
/-- Between points. -/
def runs (K : GSem nD τ sig → ℕ) (c : Dev nD) (n : ℕ) : sProp 𝕄 :=
  iprop(atPos ER (barCell c) 1 ∅ 0 ∗ waits (F := F) c ∗ bigSep (Finset.univ : Finset (Fin 4)) (bat m K c (n / 4))
    ∗ (if n % 4 = 0 then iprop(∃ a l, accPt c a l) else accPt c (oAt m c n) (lAt m c n)))
/-- After the last: every counter of the protocol at zero and in hand, the scratches whole. -/
def ends (c : Dev nD) : sProp 𝕄 :=
  iprop(semVal (barCell c) 0 ∗ bigSep (Finset.univ : Finset Lane) (fun x => iprop(semVal (sendCell c x) 0 ∗ semVal (recvCell c x) 0))
    ∗ (∃ a l, accPt c a l)
    ∗ (∃ f, (Memref.whole cc0_scratch2).view.loc (c : Thread nD τ) ↦[(Memref.whole cc0_scratch2).view.set]{fullShare} f)
    ∗ (∃ f, (Memref.whole cc0_scratch3).view.loc (c : Thread nD τ) ↦[(Memref.whole cc0_scratch3).view.set]{fullShare} f))

/-- What device `c` holds before point `n`. -/
def inv (c : Dev nD) (n : ℕ) : sProp 𝕄 :=
  if n = 0 then iprop(∃ K, invs (commO m) (commL m) K c ∗ begins (F := F) c)
  else if n = 16 then ends c else iprop(∃ K, invs (commO m) (commL m) K c ∗ runs m K c n)

theorem inv_zero (c : Dev nD) : inv m c 0 = iprop(∃ K, invs (commO m) (commL m) K c ∗ begins (F := F) c) := if_pos rfl
theorem inv_mid (c : Dev nD) (n : ℕ) (h0 : n ≠ 0) (h1 : n ≠ 16) : inv m c n = iprop(∃ K, invs (commO m) (commL m) K c ∗ runs m K c n) := by
  unfold inv; rw [if_neg h0, if_neg h1]
theorem inv_end (c : Dev nD) : inv m c 16 = ends c := by
  unfold inv; rw [if_neg (by decide), if_pos rfl]

/-- One batch entry's part taken out, and put back sent. -/
theorem bat_take (K : GSem nD τ sig → ℕ) (c : Dev nD) (b : Fin 4) :
    bigSep (Finset.univ : Finset (Fin 4)) (bat m K c b.val)
      ⊢ iprop(packPre (commO m) (commL m) K c b ∗ (packPost c b -∗ bigSep (Finset.univ : Finset (Fin 4)) (bat m K c (b.val + 1)))) := by
  rw [bigSep_univ_at (bat m K c b.val) b, bigSep_univ_at (bat m K c (b.val + 1)) b,
    bigSep_congr (s := Finset.univ.erase b) (Φ := bat m K c (b.val + 1)) (Ψ := bat m K c b.val) fun b' hb' => by
      have hne : b'.val ≠ b.val := fun h => Finset.ne_of_mem_erase hb' (Fin.ext h)
      unfold bat
      by_cases h : b'.val < b.val
      · rw [if_pos h, if_pos (by omega)]
      · rw [if_neg h, if_neg (by omega)],
    show bat m K c b.val b = packPre (commO m) (commL m) K c b from if_neg (Nat.lt_irrefl _),
    show bat m K c (b.val + 1) b = packPost c b from if_pos (Nat.lt_succ_self _)]
  iintro ⟨Hp, Hr⟩
  isplitl [Hp]; · iexact Hp
  iintro Hq
  isplitl [Hq] <;> iassumption

/-- All entries' parts when three have been sent. -/
theorem bat_last (K : GSem nD τ sig → ℕ) (c : Dev nD) :
    bigSep (Finset.univ : Finset (Fin 4)) (bat m K c 3)
      ⊢ iprop(packPre (commO m) (commL m) K c 3 ∗ packPost c 0 ∗ packPost c 1 ∗ packPost c 2) := by
  rw [bigSep_eq_bigSepL_of_eq [3, 0, 1, 2] (by decide) (by decide)]
  exact Entails.refl _

/-- Before the barrier is met the parts are held as rows and lent pairs. -/
theorem rows_lent (K : GSem nD τ sig → ℕ) (c : Dev nD) (b : Fin 4) :
    iprop(rows (F := F) c b ∗ lent (F := F) (pr c) b) ⊢ bat m K c 0 b := by
  rw [show bat m K c 0 b = packPre (commO m) (commL m) K c b from if_neg (Nat.not_lt_zero _)]
  unfold rows packPre
  iintro ⟨⟨H1, H2, H3, H4⟩, H5⟩
  isplitl [H1]; · iexact H1
  isplitl [H2]; · iexact H2
  isplitl [H3]; · iexact H3
  isplitl [H4] <;> iassumption
theorem bat_first (K : GSem nD τ sig → ℕ) (c : Dev nD) :
    iprop(bigSep (Finset.univ : Finset (Fin 4)) (rows (F := F) c) ∗ bigSep (Finset.univ : Finset (Fin 4)) (lent (F := F) (pr c)))
      ⊢ bigSep (Finset.univ : Finset (Fin 4)) (bat m K c 0) := by
  rw [← bigSep_sep']
  exact bigSep_mono fun b _ => rows_lent m K c b

theorem owedAt_zero (c : Dev nD) : owedAt c 0 = dueFrom c 0 + tallyAt (barCell (pr c)) () 1 := by
  unfold owedAt; rw [if_pos rfl]
theorem owedAt_pos (c : Dev nD) (n : ℕ) (h : n ≠ 0) : owedAt c n = dueFrom c (n / 4) := by
  unfold owedAt; rw [if_neg h, add_zero]

end Cert.KernelIdeal.Proof

end
-- ==== Proof.KernelIdeal.BodyAll.lean ====
/-
# The body at every grid point

From what a device holds before a point to what it holds before the next.
-/
module
public import proofs.«01_k».proof.Proof.KernelIdeal.Data

@[expose] public section

set_option maxRecDepth 16384

noncomputable section

namespace Cert.KernelIdeal.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pointwise Cert.KernelIdeal.Gen

variable {F : FTy → Type} [FloatOps F] [Named F]
variable (m : (ℓ : Loc nD τ sig) → Buf (Elt F) ℓ)
local notation "𝕄" => MT nD τ sig Unit (Elt F) ℕ UU ℕ

/-! ## Which points take which branch -/

theorem at_cond1 : ∀ t : Fin grid0.N, k0_cond1 (grid0.coords t) = 1#1 ↔ t.val = 0 := by decide +kernel
theorem at_cond2 : ∀ t : Fin grid0.N, cond2 (grid0.coords t) ↔ t.val % 4 = 0 := by decide +kernel
theorem at_cond3 : ∀ t : Fin grid0.N, k0_cond3 (grid0.coords t) = 1#1 ↔ t.val = 3 := by decide +kernel
theorem at_cond4 : ∀ t : Fin grid0.N, k0_cond4 (grid0.coords t) = 1#1 ↔ t.val = 7 := by decide +kernel
theorem at_cond5 : ∀ t : Fin grid0.N, k0_cond5 (grid0.coords t) = 1#1 ↔ t.val = 11 := by decide +kernel
theorem at_cond6 : ∀ t : Fin grid0.N, k0_cond6 (grid0.coords t) = 1#1 ↔ t.val = 15 := by decide +kernel
theorem at_cond7 : ∀ t : Fin grid0.N, k0_cond7 (grid0.coords t) = 1#1 ↔ t.val = 15 := by decide +kernel

/-- The body at point `t` on its staging buffers. -/
abbrev bodyT (t : Fin cfg0.N) : Prog (TpuEff nD τ sig (Elt F) Λ₀ .tc) PUnit :=
  bodyOf (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3))
/-- The staged inputs at point `t`. -/
abbrev blkT (c : Dev nD) (t : Fin cfg0.N) : sProp 𝕄 :=
  blkPt c (st0_0 t) (st0_1 t) (st0_2 t) (qB m c t.val) (kB m c t.val) (vB m c t.val)

/-- A run of the body from `n` to the next point. -/
abbrev RunAt (c : Dev nD) (t : Fin cfg0.N) : Prop :=
  ∀ W : Waits sig Unit, iprop(inv m c t.val ∗ owes (c : Thread nD τ) (owedAt c t.val) W ∗ blkT m c t)
    ⊢ wp frame (wpE (defs₀ (F := F)) 𝒱₀ c none) Set.univ (bodyT t) fun _ =>
        iprop(inv m c (t.val + 1) ∗ (∃ W, owes (c : Thread nD τ) (owedAt c (t.val + 1)) W) ∗ blkT m c t)

theorem run_start (c : Dev nD) (t : Fin cfg0.N) (h : t.val = 0) : RunAt m c t := fun W => by
  have e : t = ptN 0 := by rw [← ptN_val t, h]
  rw [h, inv_zero, inv_mid m c (0 + 1) (by decide) (by decide), owedAt_zero, owedAt_pos c (0 + 1) (by decide)]
  unfold begins runs blkT
  rw [h, if_neg (show ¬ (0 + 1) % 4 = 0 by decide), oAt_first m c 0 rfl, lAt_first m c 0 rfl]
  iintro ⟨⟨%K, #HI, Hlev, Htok, Hre, Hcr, Hat, Hw, Hrows, Hlent, ⟨%a, %l, Hacc⟩⟩, Ho, Hb⟩
  iapply (start_run (commO m) (commL m) K c (grid0.coords t) (st0_0 t) _ (st0_1 t) _ (st0_2 t) _ (st0_3 t) _
    (qB m c 0) (kB m c 0) (vB m c 0) a l W ((at_cond1 t).mpr h) ((at_cond2 t).mpr (by rw [h]))
    (fun hh => by have := (at_cond3 t).mp hh; omega) (fun hh => by have := (at_cond4 t).mp hh; omega)
    (fun hh => by have := (at_cond5 t).mp hh; omega) (fun hh => by have := (at_cond6 t).mp hh; omega)
    (fun hh => by have := (at_cond7 t).mp hh; omega) _)
  isplitr; · iexact HI
  isplitl [Hlev]; · iexact Hlev
  isplitl [Hb]; · iexact Hb
  isplitl [Hacc]; · iexact Hacc
  isplitl [Ho]; · iexact Ho
  isplitl [Htok]; · iexact Htok
  isplitl [Hre]; · iexact Hre
  isplitl [Hlent]; · iexact Hlent
  isplitl [Hcr]; · iexact Hcr
  isplitl [Hat]; · iexact Hat
  iintro ⟨Hb, Hacc, Ho, Hat, Hlent⟩
  isplitl [Hat Hw Hrows Hlent Hacc]
  · iexists K
    isplitr; · iexact HI
    isplitl [Hat]; · iexact Hat
    isplitl [Hw]; · iexact Hw
    isplitl [Hrows Hlent]
    · iapply (bat_first m K c)
      isplitl [Hrows] <;> iassumption
    iexact Hacc
  isplitl [Ho]; · iexact Ho
  iexact Hb

theorem run_first (c : Dev nD) (t : Fin cfg0.N) (h0 : t.val ≠ 0) (h : t.val % 4 = 0) : RunAt m c t := fun W => by
  have ht : t.val < 16 := t.isLt.trans_eq N_0
  rw [inv_mid m c t.val h0 (by omega), inv_mid m c (t.val + 1) (by omega) (by omega), owedAt_pos c t.val h0, owedAt_pos c (t.val + 1) (by omega)]
  unfold runs
  rw [if_pos h, if_neg (show ¬ (t.val + 1) % 4 = 0 by omega), oAt_first m c t.val h, lAt_first m c t.val h,
    show (t.val + 1) / 4 = t.val / 4 by omega]
  iintro ⟨⟨%K, #HI, Hat, Hw, Hbat, ⟨%a, %l, Hacc⟩⟩, Ho, Hb⟩
  iapply (first_run c (grid0.coords t) (st0_0 t) _ (st0_1 t) _ (st0_2 t) _ (st0_3 t) _
    (qB m c t.val) (kB m c t.val) (vB m c t.val) a l (fun hh => h0 ((at_cond1 t).mp hh)) ((at_cond2 t).mpr h)
    (fun hh => by have := (at_cond3 t).mp hh; omega) (fun hh => by have := (at_cond4 t).mp hh; omega)
    (fun hh => by have := (at_cond5 t).mp hh; omega) (fun hh => by have := (at_cond6 t).mp hh; omega)
    (fun hh => by have := (at_cond7 t).mp hh; omega) _)
  isplitl [Hb]; · iexact Hb
  isplitl [Hacc]; · iexact Hacc
  iintro ⟨Hb, Hacc⟩
  isplitl [Hat Hw Hbat Hacc]
  · iexists K
    isplitr; · iexact HI
    isplitl [Hat]; · iexact Hat
    isplitl [Hw]; · iexact Hw
    isplitl [Hbat] <;> iassumption
  isplitl [Ho]; · iexists W; iexact Ho
  iexact Hb

theorem run_mid (c : Dev nD) (t : Fin cfg0.N) (h : t.val % 4 ≠ 0) (h3 : t.val % 4 ≠ 3) : RunAt m c t := fun W => by
  have ht : t.val < 16 := t.isLt.trans_eq N_0
  rw [inv_mid m c t.val (by omega) (by omega), inv_mid m c (t.val + 1) (by omega) (by omega), owedAt_pos c t.val (by omega), owedAt_pos c (t.val + 1) (by omega)]
  unfold runs
  rw [if_neg h, if_neg (show ¬ (t.val + 1) % 4 = 0 by omega), oAt_next m c t.val h, lAt_next m c t.val h,
    show (t.val + 1) / 4 = t.val / 4 by omega]
  iintro ⟨⟨%K, #HI, Hat, Hw, Hbat, Hacc⟩, Ho, Hb⟩
  iapply (mid_run c (grid0.coords t) (st0_0 t) _ (st0_1 t) _ (st0_2 t) _ (st0_3 t) _
    (qB m c t.val) (kB m c t.val) (vB m c t.val) (oAt m c t.val) (lAt m c t.val)
    (fun hh => by have := (at_cond1 t).mp hh; omega) (fun hh => h ((at_cond2 t).mp hh))
    (fun hh => by have := (at_cond3 t).mp hh; omega) (fun hh => by have := (at_cond4 t).mp hh; omega)
    (fun hh => by have := (at_cond5 t).mp hh; omega) (fun hh => by have := (at_cond6 t).mp hh; omega)
    (fun hh => by have := (at_cond7 t).mp hh; omega) _)
  isplitl [Hb]; · iexact Hb
  isplitl [Hacc]; · iexact Hacc
  iintro ⟨Hb, Hacc⟩
  isplitl [Hat Hw Hbat Hacc]
  · iexists K
    isplitr; · iexact HI
    isplitl [Hat]; · iexact Hat
    isplitl [Hw]; · iexact Hw
    isplitl [Hbat] <;> iassumption
  isplitl [Ho]; · iexists W; iexact Ho
  iexact Hb

/-- A packing point of batch entry `b`, from a run of its branch. -/
theorem run_pack (c : Dev nD) (t : Fin cfg0.N) (b : Fin 4) (hb : b.val < 3) (h : t.val = 4 * b.val + 3)
    (run : ∀ (K : GSem nD τ sig → ℕ) (W : Waits sig Unit) (Kt : PUnit → sProp 𝕄),
      iprop(invs (commO m) (commL m) K c ∗ blkT m c t ∗ accPt c (oAt m c t.val) (lAt m c t.val) ∗ packPre (commO m) (commL m) K c b
          ∗ owes (c : Thread nD τ) (dueFrom c b.val) W
          ∗ (blkT m c t ∗ accPt c (stepO (qB m c t.val) (kB m c t.val) (vB m c t.val) (oAt m c t.val)) (stepL (qB m c t.val) (kB m c t.val) (lAt m c t.val))
              ∗ packPost c b ∗ owes (c : Thread nD τ) (dueFrom c (b.val + 1)) W -∗ Kt ⟨⟩))
        ⊢ wp frame (wpE (defs₀ (F := F)) 𝒱₀ c none) Set.univ (bodyT t) Kt) : RunAt m c t := fun W => by
  rw [inv_mid m c t.val (by omega) (by omega), inv_mid m c (t.val + 1) (by omega) (by omega), owedAt_pos c t.val (by omega), owedAt_pos c (t.val + 1) (by omega)]
  unfold runs
  rw [if_neg (show ¬ t.val % 4 = 0 by omega), if_pos (show (t.val + 1) % 4 = 0 by omega),
    show (t.val + 1) / 4 = b.val + 1 by omega, show t.val / 4 = b.val by omega]
  iintro ⟨⟨%K, #HI, Hat, Hw, Hbat, Hacc⟩, Ho, Hb⟩
  ihave Hp := (bat_take m K c b) $$ Hbat
  icases Hp with ⟨Hp, Hback⟩
  iapply (run K W _)
  isplitr; · iexact HI
  isplitl [Hb]; · iexact Hb
  isplitl [Hacc]; · iexact Hacc
  isplitl [Hp]; · iexact Hp
  isplitl [Ho]; · iexact Ho
  iintro ⟨Hb, Hacc, Hq, Ho⟩
  isplitl [Hat Hw Hback Hq Hacc]
  · iexists K
    isplitr; · iexact HI
    isplitl [Hat]; · iexact Hat
    isplitl [Hw]; · iexact Hw
    isplitl [Hback Hq]; · iapply Hback; iexact Hq
    iexists _; iexists _; iexact Hacc
  isplitl [Ho]; · iexists W; iexact Ho
  iexact Hb

theorem run_pack0 (c : Dev nD) (t : Fin cfg0.N) (h : t.val = 3) : RunAt m c t :=
  run_pack m c t 0 (by decide) h fun K W Kt => pack_run0 (commO m) (commL m) (commO_free m) (commL_free m) K c (grid0.coords t) (st0_0 t) _ (st0_1 t) _ (st0_2 t) _ (st0_3 t) _
    (qB m c t.val) (kB m c t.val) (vB m c t.val) (oAt m c t.val) (lAt m c t.val) W
    (fun hh => by have := (at_cond1 t).mp hh; omega) (fun hh => by have := (at_cond2 t).mp hh; omega) ((at_cond3 t).mpr h) (fun hh => by have := (at_cond4 t).mp hh; omega) (fun hh => by have := (at_cond5 t).mp hh; omega) (fun hh => by have := (at_cond6 t).mp hh; omega) (fun hh => by have := (at_cond7 t).mp hh; omega)
    (by rw [h]; exact commO_at m c 0) (by rw [h]; exact commL_at m c 0) Kt

theorem run_pack1 (c : Dev nD) (t : Fin cfg0.N) (h : t.val = 7) : RunAt m c t :=
  run_pack m c t 1 (by decide) h fun K W Kt => pack_run1 (commO m) (commL m) (commO_free m) (commL_free m) K c (grid0.coords t) (st0_0 t) _ (st0_1 t) _ (st0_2 t) _ (st0_3 t) _
    (qB m c t.val) (kB m c t.val) (vB m c t.val) (oAt m c t.val) (lAt m c t.val) W
    (fun hh => by have := (at_cond1 t).mp hh; omega) (fun hh => by have := (at_cond2 t).mp hh; omega) (fun hh => by have := (at_cond3 t).mp hh; omega) ((at_cond4 t).mpr h) (fun hh => by have := (at_cond5 t).mp hh; omega) (fun hh => by have := (at_cond6 t).mp hh; omega) (fun hh => by have := (at_cond7 t).mp hh; omega)
    (by rw [h]; exact commO_at m c 1) (by rw [h]; exact commL_at m c 1) Kt

theorem run_pack2 (c : Dev nD) (t : Fin cfg0.N) (h : t.val = 11) : RunAt m c t :=
  run_pack m c t 2 (by decide) h fun K W Kt => pack_run2 (commO m) (commL m) (commO_free m) (commL_free m) K c (grid0.coords t) (st0_0 t) _ (st0_1 t) _ (st0_2 t) _ (st0_3 t) _
    (qB m c t.val) (kB m c t.val) (vB m c t.val) (oAt m c t.val) (lAt m c t.val) W
    (fun hh => by have := (at_cond1 t).mp hh; omega) (fun hh => by have := (at_cond2 t).mp hh; omega) (fun hh => by have := (at_cond3 t).mp hh; omega) (fun hh => by have := (at_cond4 t).mp hh; omega) ((at_cond5 t).mpr h) (fun hh => by have := (at_cond6 t).mp hh; omega) (fun hh => by have := (at_cond7 t).mp hh; omega)
    (by rw [h]; exact commO_at m c 2) (by rw [h]; exact commL_at m c 2) Kt

/-- Every point but the last. -/
theorem run_early (c : Dev nD) (t : Fin cfg0.N) (h : t.val ≠ 15) : RunAt m c t := by
  have ht : t.val < 16 := t.isLt.trans_eq N_0
  by_cases h0 : t.val = 0
  · exact run_start m c t h0
  by_cases h4 : t.val % 4 = 0
  · exact run_first m c t h0 h4
  by_cases h3 : t.val % 4 = 3
  · rcases (by omega : t.val = 3 ∨ t.val = 7 ∨ t.val = 11) with e | e | e
    · exact run_pack0 m c t e
    · exact run_pack1 m c t e
    · exact run_pack2 m c t e
  · exact run_mid m c t h4 h3

/-! ## The last point -/

theorem close_cell (κ : ℕ) (g : GSem nD τ sig) :
    iprop(cellInv ER (talkRd (commO m) (commL m)) κ g ∗ atPos ER g 1 ∅ 0) ⊢ (|={Set.univ}=> semVal g 0 : sProp 𝕄) :=
  Rounds.cell_close ER (talkRd (commO m) (commL m)) (Set.mem_univ κ) id (duties_later (commO m) (commL m) g)

/-- Everything at its end: the cells can be closed. -/
theorem close_lane (K : GSem nD τ sig → ℕ) (c : Dev nD) (x : Lane) :
    iprop(invs (commO m) (commL m) K c ∗ (atPos ER (sendCell c x) 1 ∅ 0 ∗ atPos ER (recvCell c x) 1 ∅ 0))
      ⊢ (|={Set.univ}=> iprop(semVal (sendCell c x) 0 ∗ semVal (recvCell c x) 0) : sProp 𝕄) := by
  iintro ⟨HI, Ha, Hb⟩
  ihave HI := (invs_lane (commO m) (commL m) K c x) $$ HI
  icases HI with ⟨#HS, #HR, -⟩
  imod (close_cell m (K (sendCell c x)) (sendCell c x)) $$ [Ha] with H1
  · isplitr; · iexact HS
    iexact Ha
  imod (close_cell m (K (recvCell c x)) (recvCell c x)) $$ [Hb] with H2
  · isplitr; · iexact HR
    iexact Hb
  imodintro
  isplitl [H1] <;> iassumption

theorem close_all (K : GSem nD τ sig → ℕ) (c : Dev nD) :
    iprop(invs (commO m) (commL m) K c ∗ bigSep (Finset.univ : Finset Lane) (fun x => iprop(atPos ER (sendCell c x) 1 ∅ 0 ∗ atPos ER (recvCell c x) 1 ∅ 0)))
      ⊢ (|={Set.univ}=> bigSep (Finset.univ : Finset Lane) (fun x => iprop(semVal (sendCell c x) 0 ∗ semVal (recvCell c x) 0)) : sProp 𝕄) :=
  (bigSep_with_persistent (R := invs (commO m) (commL m) K c) fun x _ => close_lane m K c x).trans (bigSep_fupd _ _)

theorem invs_bar (K : GSem nD τ sig → ℕ) (c : Dev nD) :
    invs (commO m) (commL m) K c ⊢ cellInv ER (talkRd (commO m) (commL m)) (K (barCell c)) (barCell c) := by
  unfold invs
  exact sep_elim_left

theorem run_last (c : Dev nD) (t : Fin cfg0.N) (h : t.val = 15) (W : Waits sig Unit) :
    iprop(inv m c t.val ∗ owes (c : Thread nD τ) (owedAt c t.val) W ∗ blkT m c t
      ∗ ∃ g, (st0_3 t).view.loc (c : Thread nD τ) ↦[(st0_3 t).view.set]{fullShare} (st0_3 t).view.rep g)
    ⊢ wp frame (wpE (defs₀ (F := F)) 𝒱₀ c none) Set.univ (bodyT t) fun _ =>
        iprop(inv m c (t.val + 1) ∗ (∃ W, owes (c : Thread nD τ) (owedAt c (t.val + 1)) W) ∗ blkT m c t
          ∗ ((st0_3 t).view.loc (c : Thread nD τ) ↦[(st0_3 t).view.set]{fullShare} (st0_3 t).view.rep (resB m c))) := by
  refine BIBase.Entails.trans ?_ (wp_fupd _ _ _ _ _)
  unfold blkT
  rw [h, inv_mid m c 15 (by decide) (by decide), inv_end, owedAt_pos c 15 (by decide), owedAt_pos c (15 + 1) (by decide),
    show (15 + 1) / 4 = 4 from rfl, show 15 / 4 = 3 from rfl, dueFrom_four]
  unfold runs waits ends
  rw [if_neg (show ¬ 15 % 4 = 0 by decide), show 15 / 4 = 3 from rfl]
  iintro ⟨⟨%K, #HI, Hat, ⟨Hs, Hr⟩, Hbat, Hacc⟩, Ho, Hb, H5⟩
  ihave Hp := (bat_last m K c) $$ Hbat
  icases Hp with ⟨Hp, Hq⟩
  iapply (last_run (commO m) (commL m) (commO_free m) (commL_free m) K c (grid0.coords t) (st0_0 t) _ (st0_1 t) _ (st0_2 t) _ (st0_3 t) _
    (qB m c 15) (kB m c 15) (vB m c 15) (oAt m c 15) (lAt m c 15) W
    (fun hh => by have := (at_cond1 t).mp hh; omega) (fun hh => by have := (at_cond2 t).mp hh; omega)
    (fun hh => by have := (at_cond3 t).mp hh; omega) (fun hh => by have := (at_cond4 t).mp hh; omega)
    (fun hh => by have := (at_cond5 t).mp hh; omega) ((at_cond6 t).mpr h) ((at_cond7 t).mpr h)
    (commO_at m c 3) (commL_at m c 3) _)
  isplitr; · iexact HI
  isplitl [Hb]; · iexact Hb
  isplitl [Hacc]; · iexact Hacc
  isplitl [Hp]; · iexact Hp
  isplitl [Ho]; · iexact Ho
  isplitl [Hq]; · iexact Hq
  isplitl [Hs]; · iexact Hs
  isplitl [Hr]; · iexact Hr
  isplitl [H5]; · iexact H5
  iintro ⟨Hb, Hacc, Ho, Hpos, HO, HL, H5⟩
  imod (close_all m K c) $$ [Hpos] with Hpos
  · isplitr; · iexact HI
    iexact Hpos
  ihave HI' := (invs_bar m K c) $$ HI
  imod (close_cell m (K (barCell c)) (barCell c)) $$ [HI' Hat] with Hat
  · isplitl [HI'] <;> iassumption
  imodintro
  isplitl [Hat Hpos Hacc HO HL]
  · isplitl [Hat]; · iexact Hat
    isplitl [Hpos]; · iexact Hpos
    isplitl [Hacc]; · iexists _; iexists _; iexact Hacc
    isplitl [HO]; · iexists _; iexact HO
    iexists _; iexact HL
  isplitl [Ho]; · iexact Ho
  isplitl [Hb]; · iexact Hb
  iexact H5

end Cert.KernelIdeal.Proof

end
-- ==== Proof.KernelIdeal.Region.lean ====
/-
# The region: its data and its body obligation
-/
module
public import proofs.«01_k».proof.Proof.KernelIdeal.BodyAll
public import Idealize.ShloMosaic.Lib.Pipeline.TableIdle
public import Idealize.ShloMosaic.Lib.Pipeline.RegionTalk

@[expose] public section

set_option maxRecDepth 16384

noncomputable section

namespace Cert.KernelIdeal.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pointwise Cert.KernelIdeal.Gen

variable {F : FTy → Type} [FloatOps F] [Named F]
variable (m : (ℓ : Loc nD τ sig) → Buf (Elt F) ℓ)
local notation "𝕄" => MT nD τ sig Unit (Elt F) ℕ UU ℕ

open Idealize.ShloMosaic.Pipeline (Dat Cfg Window BodyObligation)

/-- What the region is entered with, what it leaves in each staging buffer, what is held and owed between points. -/
def dat0 (c : Dev nD) : Dat τ (Elt F) Unit ℕ UU ℕ cfg0 c where
  A w := V m c (Pipeline.arrRef spec0 w)
  after w t := match w with
    | 0 => iblk m c 0 t
    | 1 => iblk m c 1 t
    | 2 => iblk m c 2 t
    | 3 => resB m c
  Φ t := iprop(inv m c t.val ∗ ∃ r, prngReg c r)
  q _ := fullShare
  owed t := owedAt c t.val

theorem before_0 (c : Dev nD) (t : Fin cfg0.N) (d) : (dat0 m c).before 0 t d = iblk m c 0 t :=
  ((dat0 m c).before_in_eq_fetched 0 rfl (fun _ => rfl) (fun _ _ _ => rfl) (fun _ => rfl) t d).trans rfl
theorem before_1 (c : Dev nD) (t : Fin cfg0.N) (d) : (dat0 m c).before 1 t d = iblk m c 1 t :=
  ((dat0 m c).before_in_eq_fetched 1 rfl (fun _ => rfl) (fun _ _ _ => rfl) (fun _ => rfl) t d).trans rfl
theorem before_2 (c : Dev nD) (t : Fin cfg0.N) (d) : (dat0 m c).before 2 t d = iblk m c 2 t :=
  ((dat0 m c).before_in_eq_fetched 2 rfl (fun _ => rfl) (fun _ _ _ => rfl) (fun _ => rfl) t d).trans rfl

theorem owes_in (c : Dev nD) (t : Fin (cfg0.N + 1)) :
    iprop(∃ W, owes (c : Thread nD τ) (owedAt c t.val) W) ⊢ ((dat0 m c).owesAt () t : sProp 𝕄) := by
  unfold Dat.owesAt Pipeline.owesWithin Dat.bound
  iintro ⟨%W, HO⟩
  iexists W
  isplitr
  · ipureintro; exact fun _ _ => Or.inl trivial
  iexact HO
theorem owes_out (c : Dev nD) (t : Fin (cfg0.N + 1)) :
    ((dat0 m c).owesAt () t : sProp 𝕄) ⊢ iprop(∃ W, owes (c : Thread nD τ) (owedAt c t.val) W) := by
  unfold Dat.owesAt Pipeline.owesWithin
  iintro ⟨%W, -, HO⟩
  iexists W
  iexact HO

/-- The staging buffer of window `w` at point `t`, as the pipeline describes it. -/
abbrev ow (c : Dev nD) (t : Fin cfg0.N) (w : Fin cfg0.W) (X : ((cfg0.win w).block).Idx → Elt F (cfg0.win w).elt) : sProp 𝕄 :=
  owns (Ix := Unit) (Name := ℕ) (U := UU) (Lvl := ℕ) (c : Thread nD τ) ((cfg0.win w).stage (cfg0.slots t w)) fullShare X

theorem idle_out : ∀ t : Fin grid0.N, idle0 3 (grid0.coords t) = decide (t.val ≠ 15) := by decide +kernel
theorem flush_out : ∀ t : Fin grid0.N, win0_3.flush t = decide (t.val = 15) := fun t => by
  have h := flush0_3 t
  have ht : t.val < 16 := t.isLt.trans_eq N_0
  by_cases e : t.val = 15
  · rw [decide_eq_true e]; exact h.mpr (by omega)
  · rw [decide_eq_false e]; exact Bool.eq_false_iff.mpr fun hh => e (by have := h.mp hh; omega)

/-- What is left in the result's staging buffer. -/
abbrev left3 (c : Dev nD) (t : Fin cfg0.N) : sProp 𝕄 :=
  match cfg0.idle 3 (cfg0.grid.coords t) with
  | true =>
    match (cfg0.win 3).flush t with
    | false => iprop(∃ d, ow c t 3 ((dat0 m c).before 3 t d))
    | true => ow c t 3 (resB m c)
  | false => ow c t 3 (resB m c)

theorem left3_early (c : Dev nD) (t : Fin cfg0.N) (h : t.val ≠ 15) : left3 m c t = iprop(∃ d, ow c t 3 ((dat0 m c).before 3 t d)) := by
  have e : cfg0.idle 3 (cfg0.grid.coords t) = true := (idle_out t).trans (decide_eq_true h)
  have e' : (cfg0.win 3).flush t = false := (flush_out t).trans (decide_eq_false h)
  unfold left3
  rw [e, e']
theorem left3_last (c : Dev nD) (t : Fin cfg0.N) (h : t.val = 15) : left3 m c t = ow c t 3 (resB m c) := by
  have e : cfg0.idle 3 (cfg0.grid.coords t) = false := (idle_out t).trans (decide_eq_false (fun hh => hh h))
  unfold left3
  rw [e]

/-- The staged inputs, as the pipeline describes them and as the body's runs do. -/
theorem blk_in (c : Dev nD) (t : Fin cfg0.N) :
    iprop(ow c t 0 (iblk m c 0 t) ∗ ow c t 1 (iblk m c 1 t) ∗ ow c t 2 (iblk m c 2 t)) ⊢ (blkT m c t : sProp 𝕄) := by
  unfold blkT blkPt ow qB kB vB
  rw [ptN_val]
  iintro ⟨H0, H1, H2⟩
  isplitl [H0]; · iapply (rep_of_owns (c : Thread nD τ) (st0_0 t) fullShare (iblk m c 0 t)); iexact H0
  isplitl [H1]; · iapply (rep_of_owns (c : Thread nD τ) (st0_1 t) fullShare (iblk m c 1 t)); iexact H1
  iapply (rep_of_owns (c : Thread nD τ) (st0_2 t) fullShare (iblk m c 2 t)); iexact H2
theorem blk_out (c : Dev nD) (t : Fin cfg0.N) :
    (blkT m c t : sProp 𝕄) ⊢ iprop(ow c t 0 (iblk m c 0 t) ∗ ow c t 1 (iblk m c 1 t) ∗ ow c t 2 (iblk m c 2 t)) := by
  unfold blkT blkPt ow qB kB vB
  rw [ptN_val]
  iintro ⟨H0, H1, H2⟩
  isplitl [H0]; · iapply (owns_of_rep (c : Thread nD τ) (st0_0 t) fullShare (iblk m c 0 t)); iexact H0
  isplitl [H1]; · iapply (owns_of_rep (c : Thread nD τ) (st0_1 t) fullShare (iblk m c 1 t)); iexact H1
  iapply (owns_of_rep (c : Thread nD τ) (st0_2 t) fullShare (iblk m c 2 t)); iexact H2

/-- A point's run, with what the pipeline passes in and takes back. -/
abbrev PtPre (c : Dev nD) (t : Fin cfg0.N) : sProp 𝕄 :=
  iprop((inv m c t.val ∗ ∃ r, prngReg c r) ∗ (dat0 m c).owesAt () t.castSucc
    ∗ (∃ d, ow c t 0 ((dat0 m c).before 0 t d)) ∗ (∃ d, ow c t 1 ((dat0 m c).before 1 t d))
    ∗ (∃ d, ow c t 2 ((dat0 m c).before 2 t d)) ∗ (∃ d, ow c t 3 ((dat0 m c).before 3 t d)))
abbrev PtPost (c : Dev nD) (t : Fin cfg0.N) : sProp 𝕄 :=
  iprop((inv m c (t.val + 1) ∗ ∃ r, prngReg c r) ∗ (dat0 m c).owesAt () t.succ
    ∗ ow c t 0 (iblk m c 0 t) ∗ ow c t 1 (iblk m c 1 t) ∗ ow c t 2 (iblk m c 2 t) ∗ left3 m c t)

theorem point_early (c : Dev nD) (t : Fin cfg0.N) (h : t.val ≠ 15) :
    PtPre m c t ⊢ wp frame (wpE (defs₀ (F := F)) 𝒱₀ c none) Set.univ (bodyT t) fun _ => PtPost m c t := by
  unfold PtPre PtPost
  simp only [before_0, before_1, before_2]
  rw [left3_early m c t h]
  iintro ⟨⟨HI, Hp⟩, HO, ⟨%d0, H0⟩, ⟨%d1, H1⟩, ⟨%d2, H2⟩, H3⟩
  ihave HO := (owes_out m c t.castSucc) $$ HO
  icases HO with ⟨%W, HO⟩
  ihave Hb := (blk_in m c t) $$ [H0 H1 H2]
  · isplitl [H0]; · iexact H0
    isplitl [H1] <;> iassumption
  iapply (wp_wand_r _ _ _)
  isplitl [HI HO Hb]
  · iapply (run_early m c t h W)
    isplitl [HI]; · iexact HI
    isplitl [HO]; · iexact HO
    iexact Hb
  iintro %_ ⟨HI, HO, Hb⟩
  ihave Hb := (blk_out m c t) $$ Hb
  icases Hb with ⟨H0, H1, H2⟩
  isplitl [HI Hp]
  · isplitl [HI] <;> iassumption
  isplitl [HO]; · iapply (owes_in m c t.succ); iexact HO
  isplitl [H0]; · iexact H0
  isplitl [H1]; · iexact H1
  isplitl [H2] <;> iassumption

theorem point_last (c : Dev nD) (t : Fin cfg0.N) (h : t.val = 15) :
    PtPre m c t ⊢ wp frame (wpE (defs₀ (F := F)) 𝒱₀ c none) Set.univ (bodyT t) fun _ => PtPost m c t := by
  unfold PtPre PtPost
  simp only [before_0, before_1, before_2]
  rw [left3_last m c t h]
  iintro ⟨⟨HI, Hp⟩, HO, ⟨%d0, H0⟩, ⟨%d1, H1⟩, ⟨%d2, H2⟩, ⟨%d3, H3⟩⟩
  ihave HO := (owes_out m c t.castSucc) $$ HO
  icases HO with ⟨%W, HO⟩
  ihave Hb := (blk_in m c t) $$ [H0 H1 H2]
  · isplitl [H0]; · iexact H0
    isplitl [H1] <;> iassumption
  iapply (wp_wand_r _ _ _)
  isplitl [HI HO Hb H3]
  · iapply (run_last m c t h W)
    isplitl [HI]; · iexact HI
    isplitl [HO]; · iexact HO
    isplitl [Hb]; · iexact Hb
    iexists _
    iapply (rep_of_owns (c : Thread nD τ) (st0_3 t) fullShare ((dat0 m c).before 3 t d3)); iexact H3
  iintro %_ ⟨HI, HO, Hb, H3⟩
  ihave Hb := (blk_out m c t) $$ Hb
  icases Hb with ⟨H0, H1, H2⟩
  isplitl [HI Hp]
  · isplitl [HI] <;> iassumption
  isplitl [HO]; · iapply (owes_in m c t.succ); iexact HO
  isplitl [H0]; · iexact H0
  isplitl [H1]; · iexact H1
  isplitl [H2]; · iexact H2
  iapply (owns_of_rep (c : Thread nD τ) (st0_3 t) fullShare (resB m c)); iexact H3

/-- The pipeline's body obligation. -/
theorem body_obligation (c : Dev nD) : BodyObligation (dat0 (F := F) m c) (defs₀ (F := F)) 𝒱₀ () Set.univ := fun t => by
  rw [bigSep_W0, bigSep_W0]
  by_cases h : t.val = 15
  · exact point_last m c t h
  · exact point_early m c t h

/-! ## The region's segment -/

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => dat0 m

end Cert.KernelIdeal.Proof

end
-- ==== Proof.KernelIdeal.Open.lean ====
/-
# Into the region and out of it

What a device brings to the region from the launch, how its own cells are opened there, how the scratches are cut into what the
first point needs, and how everything is given back after the last.
-/
module
public import proofs.«01_k».proof.Proof.KernelIdeal.Region
public import Idealize.ShloMosaic.Lib.Pipeline.ValueKit.Geometry

@[expose] public section

set_option maxRecDepth 16384

noncomputable section

namespace Cert.KernelIdeal.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pointwise Cert.KernelIdeal.Gen

variable {F : FTy → Type} [FloatOps F] [Named F]
variable (m : (ℓ : Loc nD τ sig) → Buf (Elt F) ℓ)
local notation "𝕄" => MT nD τ sig Unit (Elt F) ℕ UU ℕ

open Idealize.ShloMosaic.Pipeline (Dat Cfg Window BodyObligation)

/-! ## The kernel's own cells, opened at the region's entry -/

/-- The kernel's own cells: a send cell and a receive cell for every copy. -/
def osem (k : Lane × Fin 2) : SemLoc sig := .dma (if k.2 = 0 then sendS k.1 else recvS k.1)
theorem ownFacts : Pipeline.OwnSemFacts spec0 osem := by decide +kernel

theorem two (Φ : Fin 2 → sProp 𝕄) : bigSep Finset.univ Φ = iprop(Φ 0 ∗ Φ 1) :=
  bigSep_univ_eq_bigSepL [0, 1] (by decide) (by decide) Φ
theorem four (Φ : Fin 4 → sProp 𝕄) : bigSep Finset.univ Φ = iprop(Φ 0 ∗ Φ 1 ∗ Φ 2 ∗ Φ 3) :=
  bigSep_univ_eq_bigSepL [0, 1, 2, 3] (by decide) (by decide) Φ

theorem ownSems_eq (c : Dev nD) : (Pipeline.ownSems0 osem c : sProp 𝕄)
    = bigSep (Finset.univ : Finset Lane) fun x => iprop(semVal (sendCell c x) 0 ∗ semVal (recvCell c x) 0) := by
  unfold Pipeline.ownSems0
  rw [bigSep_univ_prod]
  exact bigSep_congr fun x _ => two _

/-- What one lane brings from the launch: its cells still closed, the tokens of its two duties, the credit of what it waits for. -/
def laneTk (c : Dev nD) (x : Lane) : sProp 𝕄 :=
  iprop(openTok ER (sendCell c x) ∗ openTok ER (recvCell c x) ∗ dutyTok ER (sendCell c x) 0 () ∗ dutyTok ER (recvCell (pr c) x) 0 ()
    ∗ cred (tallyAt (recvCell c x) () (amt x.1)))
/-- And what it has once they are open. -/
def laneXk (c : Dev nD) (x : Lane) : sProp 𝕄 :=
  iprop(atPos ER (sendCell c x) 0 ∅ 0 ∗ recvIn (F := F) c x ∗ ticket (F := F) c x ∗ reached ER (recvCell c x) 0)

/-- What the barrier needs at the first point. -/
def barTk (c : Dev nD) : sProp 𝕄 :=
  iprop(dutyTok ER (barCell (pr c)) 0 () ∗ reached ER (barCell (pr c)) 0 ∗ cred (tallyAt (barCell c) () 1) ∗ atPos ER (barCell c) 0 ∅ 0)

def Tk (c : Dev nD) : sProp 𝕄 :=
  iprop((∃ K, invs (commO m) (commL m) K c) ∗ barTk (F := F) c ∗ bigSep (Finset.univ : Finset Lane) (laneTk (F := F) c))
def Xk (c : Dev nD) : sProp 𝕄 :=
  iprop((∃ K, invs (commO m) (commL m) K c) ∗ levAts L lv ∗ barTk (F := F) c ∗ bigSep (Finset.univ : Finset Lane) (laneXk (F := F) c))
def Yk (c : Dev nD) : sProp 𝕄 := semVal (barCell c) 0

theorem open_lane (K : GSem nD τ sig → ℕ) (c : Dev nD) (x : Lane) :
    iprop(invs (commO m) (commL m) K c ∗ (laneTk (F := F) c x ∗ (semVal (sendCell c x) 0 ∗ semVal (recvCell c x) 0)))
      ⊢ (|={Set.univ}=> laneXk (F := F) c x : sProp 𝕄) := by
  unfold laneTk laneXk recvIn ticket
  iintro ⟨HI, ⟨Ho, Ho', Ht, Ht', Hc⟩, Hs, Hr⟩
  ihave HI := (invs_lane (commO m) (commL m) K c x) $$ HI
  icases HI with ⟨#HS, #HR, -⟩
  imod (Rounds.cell_open ER (talkRd (commO m) (commL m)) (g := sendCell c x) (Set.mem_univ (K (sendCell c x)))) $$ [Ho Hs] with ⟨Hat, #Hre⟩
  · isplitr; · iexact HS
    isplitl [Ho] <;> iassumption
  imod (Rounds.cell_open ER (talkRd (commO m) (commL m)) (g := recvCell c x) (Set.mem_univ (K (recvCell c x)))) $$ [Ho' Hr] with ⟨Hat', #Hre'⟩
  · isplitr; · iexact HR
    isplitl [Ho'] <;> iassumption
  imodintro
  isplitl [Hat]; · iexact Hat
  isplitl [Hc Hat']
  · isplitl [Hc] <;> iassumption
  isplitl [Ht Ht']
  · isplitl [Ht]; · iexact Ht
    isplitr; · iexact Hre
    iexact Ht'
  iexact Hre'

theorem open_lanes (K : GSem nD τ sig → ℕ) (c : Dev nD) :
    iprop(invs (commO m) (commL m) K c
        ∗ bigSep (Finset.univ : Finset Lane) (fun x => iprop(laneTk (F := F) c x ∗ (semVal (sendCell c x) 0 ∗ semVal (recvCell c x) 0))))
      ⊢ (|={Set.univ}=> bigSep (Finset.univ : Finset Lane) (laneXk (F := F) c) : sProp 𝕄) :=
  (bigSep_with_persistent (R := invs (commO m) (commL m) K c) fun x _ => open_lane m K c x).trans (bigSep_fupd _ _)

theorem hopen (c : Dev nD) : iprop(Tk m c ∗ Pipeline.ownSems0 osem c ∗ levAts L lv) ⊢ (|={Set.univ}=> Xk m c : sProp 𝕄) := by
  rw [ownSems_eq, bigSep_sep']
  unfold Tk Xk
  iintro ⟨⟨⟨%K, #HI⟩, Hb, Hl⟩, Hs, #Hlev⟩
  imod (open_lanes m K c) $$ [Hl Hs] with Hl
  · isplitr; · iexact HI
    iapply (Entails.of_eq (bigSep_sep' (Finset.univ : Finset Lane) (laneTk (F := F) c)
      (fun x => iprop(semVal (sendCell c x) 0 ∗ semVal (recvCell c x) 0))).symm)
    isplitl [Hl]; · iexact Hl
    iapply (Entails.of_eq (bigSep_sep' (Finset.univ : Finset Lane) (fun x => semVal (sendCell c x) 0) (fun x => semVal (recvCell c x) 0)).symm)
    iexact Hs
  imodintro
  isplitr
  · iexists K; iexact HI
  isplitr; · iexact Hlev
  isplitl [Hb] <;> iassumption

/-! ## The scratches at entry -/

theorem some_oPt (c : Dev nD) (s : Fin 2) (b : Fin 4) (f : OBuf F) : (oPt c s b f : sProp 𝕄) ⊢ iprop(∃ f, oPt c s b f) := by
  iintro H; iexists f; iexact H
theorem some_lPt (c : Dev nD) (s : Fin 2) (b : Fin 4) (f : LBuf F) : (lPt c s b f : sProp 𝕄) ⊢ iprop(∃ f, lPt c s b f) := by
  iintro H; iexists f; iexact H

/-- The two communication buffers and the opened lanes make the rows of the first slot, the rows to be lent, and what the
    last point waits with. -/
theorem split_comm (c : Dev nD) (f : OBuf F) (g : LBuf F) :
    iprop(((Memref.whole cc0_scratch2).view.loc (c : Thread nD τ) ↦[(Memref.whole cc0_scratch2).view.set]{fullShare} f)
        ∗ ((Memref.whole cc0_scratch3).view.loc (c : Thread nD τ) ↦[(Memref.whole cc0_scratch3).view.set]{fullShare} g)
        ∗ bigSep (Finset.univ : Finset Lane) (laneXk (F := F) c))
      ⊢ (iprop(waits (F := F) c ∗ bigSep (Finset.univ : Finset (Fin 4)) (rows (F := F) c)
          ∗ bigSep (Finset.univ : Finset (Fin 4)) (lent (F := F) c)) : sProp 𝕄) := by
  rw [o_pieces, l_pieces]
  unfold laneXk waits
  rw [bigSep_sep', bigSep_sep', bigSep_sep', sep_lanes (fun x => oPt c x.1 x.2 f), sep_lanes (fun x => lPt c x.1 x.2 g),
    sep_lanes (ticket (F := F) c), sep_lanes (fun x => reached ER (recvCell c x) 0), four, four]
  unfold rows lent
  iintro ⟨⟨⟨A0, A1, A2, A3⟩, B0, B1, B2, B3⟩, ⟨⟨C0, C1, C2, C3⟩, D0, D1, D2, D3⟩, Hs, Hr, ⟨⟨T0, T1, T2, T3⟩, U0, U1, U2, U3⟩, ⟨R0, R1, R2, R3⟩, S0, S1, S2, S3⟩
  isplitl [Hs Hr]
  · isplitl [Hs] <;> iassumption
  isplitl [A0 A1 A2 A3 C0 C1 C2 C3 T0 T1 T2 T3 U0 U1 U2 U3]
  · isplitl [A0 C0 T0 U0]
    · isplitl [A0]; · iexists f; iexact A0
      isplitl [C0]; · iexists g; iexact C0
      isplitl [T0] <;> iassumption
    isplitl [A1 C1 T1 U1]
    · isplitl [A1]; · iexists f; iexact A1
      isplitl [C1]; · iexists g; iexact C1
      isplitl [T1] <;> iassumption
    isplitl [A2 C2 T2 U2]
    · isplitl [A2]; · iexists f; iexact A2
      isplitl [C2]; · iexists g; iexact C2
      isplitl [T2] <;> iassumption
    isplitl [A3]; · iexists f; iexact A3
    isplitl [C3]; · iexists g; iexact C3
    isplitl [T3] <;> iassumption
  isplitl [B0 D0 R0 S0]
  · isplitl [B0]; · iexists f; iexact B0
    isplitl [D0]; · iexists g; iexact D0
    isplitl [R0] <;> iassumption
  isplitl [B1 D1 R1 S1]
  · isplitl [B1]; · iexists f; iexact B1
    isplitl [D1]; · iexists g; iexact D1
    isplitl [R1] <;> iassumption
  isplitl [B2 D2 R2 S2]
  · isplitl [B2]; · iexists f; iexact B2
    isplitl [D2]; · iexists g; iexact D2
    isplitl [R2] <;> iassumption
  isplitl [B3]; · iexists f; iexact B3
  isplitl [D3]; · iexists g; iexact D3
  isplitl [R3] <;> iassumption

theorem whole_pt (c : Dev nD) (b : Ref sig .tc) (f : Buf (Elt F) ((c : Thread nD τ).loc b)) :
    (((c : Thread nD τ).loc b) ↦{fullShare} f : sProp 𝕄)
      = ((Memref.whole b).view.loc (c : Thread nD τ) ↦[(Memref.whole b).view.set]{fullShare} f) := by
  rw [View.set_whole]

theorem hin (c : Dev nD) : iprop(Pipeline.scopedRest (Pipeline.pin (pcfgs (F := F)) adm 0).spec c ∗ (∃ r, prngReg c r)
      ∗ StableHlo.held (c.tc : Thread nD τ) ∅ (V0 m c) ∗ Xk m c)
    ⊢ ((pdats m 0 c).Φ 0 : sProp 𝕄) := by
  rw [show (pdats m 0 c).Φ 0 = iprop(inv m c 0 ∗ ∃ r, prngReg c r) from rfl, inv_zero]
  rw [show (Pipeline.scopedRest (Pipeline.pin (pcfgs (F := F)) adm 0).spec c : sProp 𝕄) = Pipeline.scopedRest spec0 c from rfl, scopedRest0_eq]
  unfold Xk begins barTk
  iintro ⟨⟨⟨%f0, H0⟩, ⟨%f1, H1⟩, ⟨%f2, H2⟩, ⟨%f3, H3⟩⟩, Hp, -, ⟨%K, #HI⟩, Hlev, ⟨Hd, Hre, Hc, Hat⟩, Hl⟩
  isplitr [Hp]
  · iexists K
    isplitr; · iexact HI
    ihave Hl := (split_comm c f2 f3) $$ [H2 H3 Hl]
    · isplitl [H2]; · iapply (Entails.of_eq (whole_pt c cc0_scratch2 f2)); iexact H2
      isplitl [H3]; · iapply (Entails.of_eq (whole_pt c cc0_scratch3 f3)); iexact H3
      iexact Hl
    icases Hl with ⟨Hw, Hrows, Hlent⟩
    isplitl [Hlev]; · iexact Hlev
    isplitl [Hd]; · iexact Hd
    isplitl [Hre]; · iexact Hre
    isplitl [Hc]; · iexact Hc
    isplitl [Hat]; · iexact Hat
    isplitl [Hw]; · iexact Hw
    isplitl [Hrows]; · iexact Hrows
    isplitl [Hlent]; · iexact Hlent
    iexists f0
    iexists f1
    unfold accPt accO accL
    isplitl [H0]
    · iapply (Entails.of_eq (whole_pt c cc0_scratch0 f0)); iexact H0
    · iapply (Entails.of_eq (whole_pt c cc0_scratch1 f1)); iexact H1
  iexact Hp

theorem hout (c : Dev nD) : ((pdats m 0 c).Φ (Fin.last (Pipeline.pin (pcfgs (F := F)) adm 0).N) : sProp 𝕄)
    ⊢ iprop(Pipeline.scopedRest (Pipeline.pin (pcfgs (F := F)) adm 0).spec c ∗ (∃ r, prngReg c r)
      ∗ StableHlo.held (c.tc : Thread nD τ) ∅ (V0 m c) ∗ Pipeline.ownSems0 osem c ∗ Yk (F := F) c) := by
  rw [show (pdats m 0 c).Φ (Fin.last _) = iprop(inv m c cfg0.N ∗ ∃ r, prngReg c r) from rfl, show cfg0.N = 16 from N_0, inv_end]
  rw [show (Pipeline.scopedRest (Pipeline.pin (pcfgs (F := F)) adm 0).spec c : sProp 𝕄) = Pipeline.scopedRest spec0 c from rfl, scopedRest0_eq,
    ownSems_eq]
  unfold ends Yk accPt accO accL
  iintro ⟨⟨Hb, Hs, ⟨%a, %l, H0, H1⟩, ⟨%f2, H2⟩, ⟨%f3, H3⟩⟩, Hp⟩
  isplitl [H0 H1 H2 H3]
  · isplitl [H0]
    · iexists a; iapply (Entails.of_eq (whole_pt c cc0_scratch0 a).symm); iexact H0
    isplitl [H1]
    · iexists l; iapply (Entails.of_eq (whole_pt c cc0_scratch1 l).symm); iexact H1
    isplitl [H2]
    · iexists f2; iapply (Entails.of_eq (whole_pt c cc0_scratch2 f2).symm); iexact H2
    iexists f3; iapply (Entails.of_eq (whole_pt c cc0_scratch3 f3).symm); iexact H3
  isplitl [Hp]; · iexact Hp
  isplitr
  · unfold StableHlo.held; rw [bigSep_empty]; iempintro
  isplitl [Hs] <;> iassumption

/-! ## The arrays after the region -/

/-- The buffers after the region: the result array at the result block. -/
def V1 (c : Dev nD) : Valuation τ sig (Elt F) := Function.update (V0 m c) (Proc.devRef .tc main_v1) (resB m c)

theorem V1_res (c : Dev nD) : V1 m c (Proc.devRef .tc main_v1) = resB m c := Function.update_self ..
theorem V1_of_ne (c : Dev nD) (b : DevRef τ sig) (h : b ≠ Proc.devRef .tc main_v1) : V1 m c b = V0 m c b := Function.update_of_ne h ..

theorem arr_res (c : Dev nD) : (dat0 m c).arrAt 3 cfg0.N = resB m c := by
  funext i
  exact ((dat0 m c).arrAt_emb_eq_after_last 3 t0_15 (by decide +kernel) i).trans rfl

theorem hW (c : Dev nD) (w : Fin (Pipeline.pin (pcfgs (F := F)) adm 0).W) :
    (pdats m 0 c).arrAt w 0 = V0 m c (Proc.devRef .tc (Pipeline.arrRef (Pipeline.pin (pcfgs (F := F)) adm 0).spec w)) := rfl
theorem hW' (c : Dev nD) : ∀ w : Fin 4,
    (dat0 m c).arrAt w cfg0.N = V1 m c (Proc.devRef .tc (Pipeline.arrRef spec0 w))
  | 0 => ((dat0 m c).arrAt_in 0 rfl _).trans (V1_of_ne m c (Proc.devRef .tc main_arg0) (by decide)).symm
  | 1 => ((dat0 m c).arrAt_in 1 rfl _).trans (V1_of_ne m c (Proc.devRef .tc main_arg1) (by decide)).symm
  | 2 => ((dat0 m c).arrAt_in 2 rfl _).trans (V1_of_ne m c (Proc.devRef .tc main_arg2) (by decide)).symm
  | 3 => (arr_res m c).trans (V1_res m c).symm

end Cert.KernelIdeal.Proof

end
-- ==== Proof.KernelIdeal.Launch.lean ====
/-
# The launch and the run

The region and the two host operations as segments; the cells of all devices allocated at the launch, their tokens and credits
dealt; the run of the whole program, with what every device's result ends at.
-/
module
public import proofs.«01_k».proof.Proof.KernelIdeal.Open

@[expose] public section

set_option maxRecDepth 16384

noncomputable section

namespace Cert.KernelIdeal.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pointwise Cert.KernelIdeal.Gen

variable {F : FTy → Type} [FloatOps F] [Named F]
variable (m : (ℓ : Loc nD τ sig) → Buf (Elt F) ℓ) (ρ : Dev nD → PrngReg)
local notation "𝕄" => MT nD τ sig Unit (Elt F) ℕ UU ℕ

open Idealize.ShloMosaic.Pipeline (Dat Cfg Window BodyObligation)

/-! ## The buffers -/

/-- The unscoped buffers: the arguments, the region's result and the two host operations'. -/
def bufs : Finset (DevRef τ sig) := (StableHlo.tcRefs τ sig).filter fun b => ¬ b.isScoped
/-- Those that are no array of the region. -/
def rest : Finset (DevRef τ sig) := bufs \ Pipeline.arrRefs spec0

theorem unscopedBufs_held (c : Dev nD) (W : Valuation τ sig (Elt F)) :
    (unscopedBufs c (fun b => W b) : sProp 𝕄) = StableHlo.held (c : Thread nD τ) bufs W := by
  unfold unscopedBufs StableHlo.held bufs StableHlo.tcRefs
  rw [Finset.filter_map, BI.bigSep_map]
  rfl

theorem bufs_eq (c : Dev nD) (W : Valuation τ sig (Elt F)) : (StableHlo.held (c : Thread nD τ) bufs W : sProp 𝕄)
    = iprop((((c : Thread nD τ).loc main_arg0) ↦{fullShare} W main_arg0) ∗ (((c : Thread nD τ).loc main_arg1) ↦{fullShare} W main_arg1)
      ∗ (((c : Thread nD τ).loc main_arg2) ↦{fullShare} W main_arg2) ∗ (((c : Thread nD τ).loc main_v1) ↦{fullShare} W main_v1)
      ∗ (((c : Thread nD τ).loc main_v2) ↦{fullShare} W main_v2) ∗ (((c : Thread nD τ).loc main_v3) ↦{fullShare} W main_v3)) := by
  unfold StableHlo.held
  rw [bigSep_eq_bigSepL_of_eq [Proc.devRef .tc main_arg0, Proc.devRef .tc main_arg1, Proc.devRef .tc main_arg2, Proc.devRef .tc main_v1,
    Proc.devRef .tc main_v2, Proc.devRef .tc main_v3] (by decide) (by decide)]
  rfl

theorem arr_bufs : (Pipeline.arrRefs spec0 : Finset (DevRef τ sig)) ⊆ bufs := by decide
theorem res_not_rest : Proc.devRef .tc main_v1 ∉ rest := by decide
theorem held_bufs (c : Dev nD) (W : Valuation τ sig (Elt F)) : (StableHlo.held (c : Thread nD τ) bufs W : sProp 𝕄)
    = iprop(StableHlo.held (c : Thread nD τ) (Pipeline.arrRefs spec0) W ∗ StableHlo.held (c : Thread nD τ) rest W) :=
  StableHlo.held_sub_split (c : Thread nD τ) arr_bufs W

theorem unscopedSems0_eq (c : Dev nD) : (unscopedSems0 c : sProp 𝕄) = semVal (barCell c) 0 := by
  unfold unscopedSems0
  rw [show (Finset.univ : Finset (SemLoc sig)).filter (fun sm => ¬ sm.isScoped .tc) = {.reg barrier0} from by decide, bigSep_singleton]
theorem unscoped_bar : ∀ sm : SemLoc sig, sm.isScoped .tc = false → sm = .reg barrier0 := by decide

/-! ## The segments -/

theorem kitP : Pipeline.PLaunchFacts (nD := nD) (τ := τ) (pcfgs (F := F)) 0 := launch0.toP

theorem stage_role : ∀ (w : Fin 4) (s : Fin ((win0 w).nbuf)), role (.dma ((win0 w).sem s)) = .none := by decide +kernel

local notation "ℍ" => Pipeline.HostSeg (Name := ℕ) (U := UU) (pcfgs (F := F)) defs₀ 𝒱₀ L lv
local notation "ℝ𝕊" => Pipeline.RegionSeg (pcfgs (F := F)) adm (pdats m) () defs₀ 𝒱₀ L lv

theorem cut : Pipeline.LevelCutOwed (pcfgs (F := F)) adm (pdats m) () L lv 0 (fun _ => 0) where
  hι c w s := by rw [L_tc]; exact Finset.mem_singleton_self _
  hιb c w s := by
    have h : role (.dma ((win0 w).sem s)) = .none := stage_role w s
    refine le_of_eq ?_
    show (match role (.dma ((win0 w).sem s)) with | .none => 0 | .bar => 1 | .send _ => 0 | .recv _ => 2) = 0
    rw [h]
  hD c t g i h := owedAt_level h

set_option backward.isDefEq.respectTransparency.types false in
/-- The region, from the launch's ghost state to the barrier's counter at zero. -/
def reg : ℝ𝕊 0 :=
  Pipeline.RegionSeg.ofTalk (pcfgs (F := F)) adm (pdats m) () defs₀ 𝒱₀ L lv 0 osem ownFacts
    ∅ rest (Finset.empty_subset _) kitP rfl (fun c => (body_obligation m c).loose)
    (fun _ => 0) (fun c => owedAt c 0) (fun c => (zero_add _).symm)
    (fun c => by
      show owedAt c cfg0.N = 0
      rw [show cfg0.N = 16 from N_0, owedAt_pos c 16 (by decide)]
      exact dueFrom_four c)
    (fun _ => rfl) (fun c w => by unfold Dat.share; exact ite_self _)
    (V0 m) (V1 m) (fun c b hb => V1_of_ne m c b fun e => res_not_rest (e ▸ (Finset.mem_sdiff.mp hb).1))
    (Tk m) (Yk (F := F)) (Xk m) (Yk (F := F)) (hopen m) (hin m) (fun c => hout m c)
    (fun c => by iintro H; imodintro; iexact H)
    (fun _ => 0) (cut m) (fun _ => iprop(emp))
    (hW m) (hW' m)

/-- What rides along the host operations. -/
def after1 (c : Dev nD) : sProp 𝕄 := iprop(semVal (barCell c) 0 ∗ ∃ W, owes (c : Thread nD τ) (0 : CellTallies nD τ sig Unit) W)
abbrev T₀ (c : Dev nD) : sProp 𝕄 :=
  iprop(StableHlo.held (c : Thread nD τ) bufs (V0 m c) ∗ Tk m c ∗ (∃ r, prngReg c r) ∗ ∃ W, owes (c : Thread nD τ) (owedAt c 0) W)

theorem reg_pre (c : Dev nD) : T₀ m c ⊢ (reg m).pre c := by
  show _ ⊢ iprop(StableHlo.held (c.tc : Thread nD τ) (Pipeline.arrRefs (τ := τ) spec0) (V0 m c) ∗ (∃ r, prngReg c r)
    ∗ (StableHlo.held (c.tc : Thread nD τ) rest (V0 m c) ∗ emp) ∗ Tk m c ∗ ∃ Wd, owes (c : Thread nD τ) (0 + owedAt c 0) Wd)
  unfold T₀
  rw [held_bufs, zero_add]
  iintro ⟨⟨Ha, Hr⟩, HT, Hp, HO⟩
  isplitl [Ha]; · iexact Ha
  isplitl [Hp]; · iexact Hp
  isplitl [Hr]
  · isplitl [Hr]; · iexact Hr
    iempintro
  isplitl [HT] <;> iassumption

theorem reg_post (c : Dev nD) : (reg m).post c ⊢ iprop(StableHlo.held (c : Thread nD τ) bufs (V1 m c) ∗ after1 (F := F) c) := by
  show iprop(StableHlo.held (c.tc : Thread nD τ) (Pipeline.arrRefs (τ := τ) spec0) (V1 m c) ∗ (∃ r, prngReg c r)
    ∗ (StableHlo.held (c.tc : Thread nD τ) rest (V1 m c) ∗ emp) ∗ Yk (F := F) c ∗ ∃ Wd, owes (c : Thread nD τ) (0 : CellTallies nD τ sig Unit) Wd) ⊢ _
  unfold after1 Yk
  rw [held_bufs]
  iintro ⟨Ha, -, ⟨Hr, -⟩, Hb, HO⟩
  isplitl [Ha Hr]
  · isplitl [Ha] <;> iassumption
  isplitl [Hb] <;> iassumption

theorem ops_sub : ∀ op ∈ (hostOps1 : List (HloOp τ sig (Elt F))), op.bufs ⊆ bufs := fun op h => by
  simp only [List.mem_cons, List.mem_nil_iff, or_false] at h
  rcases h with rfl | rfl
  · show ({Proc.devRef .tc main_v1, Proc.devRef .tc main_v2} : Finset (DevRef τ sig)) ⊆ bufs; decide
  · show ({Proc.devRef .tc main_v2, Proc.devRef .tc main_v3} : Finset (DevRef τ sig)) ⊆ bufs; decide
theorem ops_fresh : ∀ op ∈ (hostOps1 : List (HloOp τ sig (Elt F))), op.fresh = ∅ := List.forall_iff_forall_mem.mp hostOps1_fresh

def seg1 : ℍ := Pipeline.HostSeg.ofOps _ _ _ _ _ bufs hostOps1 ops_sub ops_fresh (V1 m) (after1 (F := F))

def segs : List (Pipeline.Seg (pcfgs (F := F)) adm (pdats m) () defs₀ 𝒱₀ L lv) := [.region (reg m), .host (seg1 m)]
theorem main_eq (c : Dev nD) : main (F := F) c = Pipeline.Seg.run (segs m) :=
  main_segs adm (pdats m) () 𝒱₀ L lv (seg1 m) (reg m) rfl c

/-- The buffers at the end. -/
def V2 (c : Dev nD) : Valuation τ sig (Elt F) := StableHlo.after hostOps1 (V1 m c)
/-- The kernel's result on device `c`. -/
def outV (c : Dev nD) : (main_v3 : Ref sig .tc).ty.Contents (Elt F) :=
  transpose S4x32x8x128 [0, 2, 1, 3] (shapeCast S4x8x32x128 (resB m c) shapeCasts_S32x32x128_S4x8x32x128) transposes_S4x8x32x128_S4x32x8x128_0_2_1_3

theorem V2_arg0 (c : Dev nD) : V2 m c main_arg0 = m ((c : Thread nD τ).loc main_arg0) := by
  refine Eq.trans (b := V1 m c (Proc.devRef .tc main_arg0)) ?_ (V1_of_ne m c _ (by decide))
  show StableHlo.after hostOps1 (V1 m c) (Proc.devRef .tc main_arg0) = _
  after_results
theorem V2_arg1 (c : Dev nD) : V2 m c main_arg1 = m ((c : Thread nD τ).loc main_arg1) := by
  refine Eq.trans (b := V1 m c (Proc.devRef .tc main_arg1)) ?_ (V1_of_ne m c _ (by decide))
  show StableHlo.after hostOps1 (V1 m c) (Proc.devRef .tc main_arg1) = _
  after_results
theorem V2_arg2 (c : Dev nD) : V2 m c main_arg2 = m ((c : Thread nD τ).loc main_arg2) := by
  refine Eq.trans (b := V1 m c (Proc.devRef .tc main_arg2)) ?_ (V1_of_ne m c _ (by decide))
  show StableHlo.after hostOps1 (V1 m c) (Proc.devRef .tc main_arg2) = _
  after_results
theorem V2_out (c : Dev nD) : V2 m c main_v3 = outV m c := by
  show StableHlo.after hostOps1 (V1 m c) (Proc.devRef .tc main_v3) = _
  after_results
  rw [V1_res]
  rfl

/-! ## The launch element -/

theorem osem_inj : Function.Injective osem := by decide +kernel
theorem osem_ne_bar : ∀ k, osem k ≠ .reg barrier0 := by decide +kernel

def barEmb : Dev nD ↪ GSem nD τ sig := ⟨fun c => barCell c, fun _ _ h => congrArg (fun g : GSem nD τ sig => g.1.1) h⟩
def ownEmb : Dev nD × (Lane × Fin 2) ↪ GSem nD τ sig :=
  ⟨fun ck => ((ck.1 : Thread nD τ), osem ck.2), fun _ _ h =>
    Prod.ext (congrArg (fun g : GSem nD τ sig => g.1.1) h) (osem_inj (congrArg Prod.snd h))⟩
/-- The barrier cells; the kernel's own cells, closed until the region. -/
abbrev barCells : Finset (GSem nD τ sig) := Finset.univ.map barEmb
abbrev ownCells : Finset (GSem nD τ sig) := Finset.univ.map ownEmb
/-- A device's cells, the barrier's first. -/
def anySem : Option (Lane × Fin 2) → SemLoc sig
  | none => .reg barrier0
  | some k => osem k
theorem anySem_inj : Function.Injective anySem := by decide +kernel
/-- Every cell's one duty. -/
def talkToks : Finset (GSem nD τ sig × ℕ × Unit) :=
  Finset.univ.map ⟨fun ck : Dev nD × Option (Lane × Fin 2) => (((ck.1 : Thread nD τ), anySem ck.2), 0, ()), fun _ _ h =>
    Prod.ext (congrArg (fun t : GSem nD τ sig × ℕ × Unit => t.1.1.1) h)
      (anySem_inj (congrArg (fun t : GSem nD τ sig × ℕ × Unit => t.1.2) h))⟩

theorem disjoint_cells : Disjoint (barCells : Finset (GSem nD τ sig)) ownCells := by
  rw [Finset.disjoint_left]
  rintro g h₁ h₂
  obtain ⟨c, -, rfl⟩ := Finset.mem_map.mp h₁
  obtain ⟨ck, -, h⟩ := Finset.mem_map.mp h₂
  exact osem_ne_bar ck.2 (congrArg Prod.snd h)

theorem bar_mem (c : Dev nD) : barCell c ∈ (barCells ∪ ownCells : Finset (GSem nD τ sig)) :=
  Finset.mem_union_left _ (Finset.mem_map_of_mem barEmb (Finset.mem_univ c))
theorem send_mem (c : Dev nD) (x : Lane) : sendCell c x ∈ (barCells ∪ ownCells : Finset (GSem nD τ sig)) :=
  Finset.mem_union_right _ (Finset.mem_map_of_mem ownEmb (Finset.mem_univ (c, (x, (0 : Fin 2)))))
theorem recv_mem (c : Dev nD) (x : Lane) : recvCell c x ∈ (barCells ∪ ownCells : Finset (GSem nD τ sig)) :=
  Finset.mem_union_right _ (Finset.mem_map_of_mem ownEmb (Finset.mem_univ (c, (x, (1 : Fin 2)))))

/-- The launch element: the pipeline's at its staging cells, the protocol's at its own. -/
def u₀ : UU :=
  (initOf (Pipeline.cells (Pipeline.pin (pcfgs (F := F)) adm) cellOf_inj) (Pipeline.launchToks (Pipeline.pin (pcfgs (F := F)) adm) cellOf_inj),
    launchOf barCells ownCells talkToks)

/-- A resource that device 0 holds for all until it is dealt. -/
def parked (X : sProp 𝕄) (c : Dev nD) : sProp 𝕄 := if c = 0 then X else iprop(emp)
theorem bigSep_parked (X : sProp 𝕄) : bigSep Finset.univ (parked X) = X := by
  rw [bigSep_univ_at _ (0 : Dev nD), bigSep_congr (s := Finset.univ.erase 0) (Ψ := fun _ => (BI.emp : sProp 𝕄))
      fun c hc => by unfold parked; rw [if_neg (Finset.ne_of_mem_erase hc)]; rfl, BI.bigSep_emp_const]
  unfold parked
  rw [if_pos rfl]
  exact BI.equiv_iff.mp sep_emp
def G : Dev nD → sProp 𝕄 := parked (BI.own (ER (launchOf barCells ownCells talkToks)))

/-! ## What is dealt to each device -/

/-- All invariants under one naming; every barrier cell open. -/
def records (κ : GSem nD τ sig → ℕ) : sProp 𝕄 :=
  iprop((bigSep (barCells ∪ ownCells) fun g => cellInv ER (talkRd (commO m) (commL m)) (κ g) g) ∗ bigSep barCells fun g => reached ER g 0)
instance records_persistent (κ : GSem nD τ sig → ℕ) : BI.Persistent (records m κ) := by unfold records; infer_instance

theorem records_inv (κ : GSem nD τ sig → ℕ) {g : GSem nD τ sig} (hg : g ∈ (barCells ∪ ownCells : Finset (GSem nD τ sig))) :
    records m κ ⊢ cellInv ER (talkRd (commO m) (commL m)) (κ g) g := by
  unfold records
  exact sep_elim_left.trans (bigSep_elim hg)
theorem records_reached (κ : GSem nD τ sig → ℕ) (c : Dev nD) : records m κ ⊢ reached ER (barCell c) 0 := by
  unfold records
  exact sep_elim_right.trans (bigSep_elim (Finset.mem_map_of_mem barEmb (Finset.mem_univ c)))

theorem records_lane (κ : GSem nD τ sig → ℕ) (c : Dev nD) (x : Lane) :
    records m κ ⊢ iprop(cellInv ER (talkRd (commO m) (commL m)) (κ (sendCell c x)) (sendCell c x)
        ∗ cellInv ER (talkRd (commO m) (commL m)) (κ (recvCell c x)) (recvCell c x)
        ∗ cellInv ER (talkRd (commO m) (commL m)) (κ (recvCell (pr c) x)) (recvCell (pr c) x)) := by
  iintro #H
  isplitr; · iapply (records_inv m κ (send_mem c x)); iexact H
  isplitr; · iapply (records_inv m κ (recv_mem c x)); iexact H
  iapply (records_inv m κ (recv_mem (pr c) x)); iexact H

theorem records_invs (κ : GSem nD τ sig → ℕ) (c : Dev nD) : records m κ ⊢ invs (commO m) (commL m) κ c := by
  unfold invs
  iintro #H
  isplitr; · iapply (records_inv m κ (bar_mem c)); iexact H
  isplitr; · iapply (records_inv m κ (bar_mem (pr c))); iexact H
  iapply ((bigSep_of_persistent (Finset.univ : Finset Lane) (records m κ)).trans (bigSep_mono fun x _ => records_lane m κ c x))
  iexact H

/-- The tokens of the duties that device `c` pays; those of its own cells. -/
def paid (c : Dev nD) : sProp 𝕄 :=
  iprop(dutyTok ER (barCell (pr c)) 0 () ∗ bigSep (Finset.univ : Finset Lane) (fun x => dutyTok ER (sendCell c x) 0 ())
    ∗ bigSep (Finset.univ : Finset Lane) (fun x => dutyTok ER (recvCell (pr c) x) 0 ()))
def toks (c : Dev nD) : sProp 𝕄 :=
  iprop(dutyTok ER (barCell c) 0 () ∗ bigSep (Finset.univ : Finset Lane) (fun x => dutyTok ER (sendCell c x) 0 ())
    ∗ bigSep (Finset.univ : Finset Lane) (fun x => dutyTok ER (recvCell c x) 0 ()))

theorem own_pairs (c : Dev nD) (Φ : GSem nD τ sig → sProp 𝕄) :
    bigSep (Finset.univ : Finset (Lane × Fin 2)) (fun k => Φ ((c : Thread nD τ), osem k))
      = iprop(bigSep (Finset.univ : Finset Lane) (fun x => Φ (sendCell c x)) ∗ bigSep (Finset.univ : Finset Lane) (fun x => Φ (recvCell c x))) := by
  rw [bigSep_univ_prod, ← bigSep_sep']
  exact bigSep_congr fun x _ => two _

theorem toks_eq : bigSep talkToks (fun x => (dutyTok ER x.1 x.2.1 x.2.2 : sProp 𝕄)) = bigSep Finset.univ fun c : Dev nD => toks (F := F) c := by
  unfold talkToks
  rw [bigSep_map, bigSep_univ_prod]
  refine bigSep_congr fun c _ => ?_
  unfold toks
  rw [← own_pairs c (fun g => dutyTok ER g 0 ()), show (Finset.univ : Finset (Option (Lane × Fin 2))) = insert none (Finset.univ.map Function.Embedding.some) from by decide +kernel,
    bigSep_insert (by decide +kernel), bigSep_map]
  rfl

/-- The two devices of a pair, exchanged. -/
def swap : Dev nD ≃ Dev nD := ⟨pr, pr, pr_pr, pr_pr⟩
theorem toks_swap : (bigSep Finset.univ fun c : Dev nD => toks (F := F) c) ⊢ bigSep Finset.univ fun c : Dev nD => paid (F := F) c := by
  unfold toks paid
  rw [bigSep_sep', bigSep_sep', bigSep_sep', bigSep_sep', bigSep_univ_equiv swap (fun c : Dev nD => (dutyTok ER (barCell c) 0 () : sProp 𝕄)),
    bigSep_univ_equiv swap (fun c : Dev nD => (bigSep (Finset.univ : Finset Lane) (fun x => dutyTok ER (recvCell c x) 0 ()) : sProp 𝕄))]
  exact BI.Entails.refl _

/-! ## The launch credit -/

theorem cell_inj {c d : Dev nD} {s t : SemLoc sig} (h : ((c : Thread nD τ), s) = ((d : Thread nD τ), t)) : c = d ∧ s = t :=
  ⟨congrArg (fun g : GSem nD τ sig => g.1.1) h, congrArg Prod.snd h⟩
theorem bar_ne_dma {s : Fin 23} : ¬ (SemLoc.reg barrier0 : SemLoc sig) = .dma s := nofun
theorem recvS_inj : Function.Injective recvS := by decide +kernel

theorem owed_bar (d c : Dev nD) : owedAt d 0 (barCell c) () = if d = pr c then 1 else 0 := by
  have h0 : dueFrom d 0 (barCell c) () = 0 := by
    by_contra hne
    obtain ⟨x, hx⟩ := dueFrom_pos (Nat.pos_of_ne_zero hne)
    exact bar_ne_dma (congrArg Prod.snd hx)
  rw [owedAt_zero, Pi.add_apply, Finsupp.add_apply, h0, Nat.zero_add, tallyAt_apply]
  by_cases h : d = pr c
  · subst h; rw [pr_pr, if_pos ⟨rfl, rfl⟩, if_pos rfl]
  · rw [if_neg (fun hh => h (by rw [(cell_inj hh.1).1, pr_pr])), if_neg h]

theorem due_recv (d c : Dev nD) (x : Lane) (b : Fin 4) : dueOf d b (recvCell c x) () = if d = pr c ∧ b = x.2 then amt x.1 else 0 := by
  unfold dueOf
  rw [Pi.add_apply, Finsupp.add_apply, tallyAt_apply, tallyAt_apply]
  by_cases h : d = pr c ∧ b = x.2
  · rw [if_pos h]
    obtain ⟨rfl, rfl⟩ := h
    obtain ⟨k, b⟩ := x
    rw [pr_pr]
    rcases (show k = 0 ∨ k = 1 by omega) with rfl | rfl
    · rw [if_neg (fun hh => absurd (congrArg Prod.fst (recvS_inj (SemLoc.dma.inj (cell_inj hh.1).2))) (show ¬ (0 : Fin 2) = 1 by decide)), if_pos ⟨rfl, rfl⟩, Nat.zero_add]
      rfl
    · rw [if_pos ⟨rfl, rfl⟩, if_neg (fun hh => absurd (congrArg Prod.fst (recvS_inj (SemLoc.dma.inj (cell_inj hh.1).2))) (show ¬ (1 : Fin 2) = 0 by decide)), Nat.add_zero]
      rfl
  · have hn : ∀ k : Fin 2, ¬ (recvCell c x = recvCell (pr d) (k, b) ∧ () = ()) := fun k hh => h
      ⟨by rw [(cell_inj hh.1).1, pr_pr], (congrArg Prod.snd (recvS_inj (SemLoc.dma.inj (cell_inj hh.1).2))).symm⟩
    rw [if_neg (hn 1), if_neg (hn 0), if_neg h]

theorem owed_recv (d c : Dev nD) (x : Lane) : owedAt d 0 (recvCell c x) () = if d = pr c then amt x.1 else 0 := by
  rw [owedAt_zero, Pi.add_apply, Finsupp.add_apply, tallyAt_apply, if_neg (fun hh => bar_ne_dma (cell_inj hh.1).2.symm), Nat.add_zero]
  unfold dueFrom
  rw [Finset.sum_apply, Finsupp.finset_sum_apply]
  simp only [Nat.zero_le, if_true, due_recv]
  by_cases h : d = pr c
  · simp only [h, true_and, if_true]
    rw [Finset.sum_ite_eq' Finset.univ x.2 (fun _ => amt x.1), if_pos (Finset.mem_univ _)]
  · simp only [h, false_and, if_false, Finset.sum_const_zero]

theorem launch_bar (c : Dev nD) :
    tallyOn (barCell c) (launchCredit (Pipeline.owing fun d => owedAt d 0) 0 (barCell c)) = (tallyAt (barCell c) () 1 : CellTallies nD τ sig Unit) := by
  unfold tallyAt
  refine congrArg _ (Finsupp.ext fun u => ?_)
  cases u
  rw [Pipeline.launchCredit_owing, Finsupp.single_eq_same, Finset.sum_congr rfl fun d _ => owed_bar d c, Finset.sum_ite_eq' Finset.univ (pr c) fun _ => 1,
    if_pos (Finset.mem_univ _)]
theorem launch_recv (c : Dev nD) (x : Lane) :
    tallyOn (recvCell c x) (launchCredit (Pipeline.owing fun d => owedAt d 0) 0 (recvCell c x))
      = (tallyAt (recvCell c x) () (amt x.1) : CellTallies nD τ sig Unit) := by
  unfold tallyAt
  refine congrArg _ (Finsupp.ext fun u => ?_)
  cases u
  rw [Pipeline.launchCredit_owing, Finsupp.single_eq_same, Finset.sum_congr rfl fun d _ => owed_recv d c x,
    Finset.sum_ite_eq' Finset.univ (pr c) fun _ => amt x.1, if_pos (Finset.mem_univ _)]

def recvEmb : Lane ↪ SemLoc sig := ⟨fun x => .dma (recvS x), fun _ _ h => recvS_inj (SemLoc.dma.inj h)⟩
theorem creds (c : Dev nD) : (Pipeline.launchCred (fun d => owedAt d 0) c : sProp 𝕄)
    ⊢ iprop(cred (tallyAt (barCell c) () 1) ∗ bigSep (Finset.univ : Finset Lane) (fun x => cred (tallyAt (recvCell c x) () (amt x.1)))) := by
  unfold Pipeline.launchCred
  rw [bigSep_univ_at _ (SemLoc.reg barrier0), launch_bar]
  refine sep_mono_right ?_
  refine BIBase.Entails.trans (bigSep_subset (t := Finset.univ.map recvEmb) ?_) ?_
  · intro s hs
    obtain ⟨x, -, rfl⟩ := Finset.mem_map.mp hs
    exact Finset.mem_erase.mpr ⟨fun h => bar_ne_dma h.symm, Finset.mem_univ _⟩
  · rw [bigSep_map]
    exact bigSep_mono fun x _ => Entails.of_eq (congrArg cred (launch_recv c x))

/-! ## The set-up -/

/-- What is dealt to one device besides the records. -/
def dealt (c : Dev nD) : sProp 𝕄 :=
  iprop(paid (F := F) c ∗ atPos ER (barCell c) 0 ∅ 0
    ∗ bigSep (Finset.univ : Finset (Lane × Fin 2)) (fun k => openTok ER ((c : Thread nD τ), osem k)))
/-- What the launch leaves each device. -/
def bundle (c : Dev nD) : sProp 𝕄 :=
  iprop(StableHlo.held (c : Thread nD τ) bufs (V0 m c)
    ∗ (cred (tallyAt (barCell c) () 1) ∗ bigSep (Finset.univ : Finset Lane) (fun x => cred (tallyAt (recvCell c x) () (amt x.1))))
    ∗ owes (c : Thread nD τ) (owedAt c 0) ∅ ∗ ∃ r, prngReg c r)

theorem T₀_intro (κ : GSem nD τ sig → ℕ) (c : Dev nD) : iprop(records m κ ∗ (dealt (F := F) c ∗ bundle m c)) ⊢ T₀ m c := by
  unfold dealt bundle paid T₀ Tk barTk laneTk
  rw [own_pairs c (fun g => openTok ER g), bigSep_sep', bigSep_sep', bigSep_sep', bigSep_sep']
  iintro ⟨#Hrec, ⟨⟨Hdb, Hds, Hdr⟩, Hat, Hos, Hor⟩, Hbufs, ⟨Hcb, Hcr⟩, HO, Hp⟩
  isplitl [Hbufs]; · iexact Hbufs
  isplitl [Hdb Hds Hdr Hat Hos Hor Hcb Hcr]
  · isplitr; · iexists κ; iapply (records_invs m κ c); iexact Hrec
    isplitl [Hdb Hat Hcb]
    · isplitl [Hdb]; · iexact Hdb
      isplitr; · iapply (records_reached m κ (pr c)); iexact Hrec
      isplitl [Hcb] <;> iassumption
    isplitl [Hos]; · iexact Hos
    isplitl [Hor]; · iexact Hor
    isplitl [Hds]; · iexact Hds
    isplitl [Hdr] <;> iassumption
  isplitl [Hp]; · iexact Hp
  iexists _; iexact HO

theorem at_dev : (bigSep barCells fun g => atPos ER g 0 ∅ 0 : sProp 𝕄) = bigSep Finset.univ fun c : Dev nD => atPos ER (barCell c) 0 ∅ 0 :=
  bigSep_map _
theorem open_dev : (bigSep ownCells fun g => openTok ER g : sProp 𝕄)
    = bigSep Finset.univ fun c : Dev nD => bigSep (Finset.univ : Finset (Lane × Fin 2)) fun k => openTok ER ((c : Thread nD τ), osem k) := by
  unfold ownCells
  rw [bigSep_map, bigSep_univ_prod]
  rfl

theorem dealt_join :
    iprop((bigSep Finset.univ fun c : Dev nD => paid (F := F) c) ∗ (bigSep barCells fun g => atPos ER g 0 ∅ 0) ∗ (bigSep ownCells fun g => openTok ER g))
      ⊢ bigSep Finset.univ fun c : Dev nD => dealt (F := F) c := by
  unfold dealt
  rw [at_dev, open_dev, bigSep_sep', bigSep_sep']

theorem init_device (c : Dev nD) :
    iprop(unscopedBufs c (fun b => m ((c : Thread nD τ).loc b)) ∗ unscopedSems0 c ∗ owes (c : Thread nD τ) (owedAt c 0) ∅
        ∗ Pipeline.launchCred (fun d => owedAt d 0) c ∗ prngReg c (ρ c) ∗ G (F := F) c)
      ⊢ iprop(bundle m c ∗ semVal (barCell c) 0 ∗ G (F := F) c) := by
  rw [unscopedSems0_eq, show (unscopedBufs c (fun b => m ((c : Thread nD τ).loc b)) : sProp 𝕄) = StableHlo.held (c : Thread nD τ) bufs (V0 m c) from
    unscopedBufs_held c (V0 m c)]
  unfold bundle
  iintro ⟨Hb, Hs, HO, Hc, Hp, HG⟩
  isplitl [Hb Hc HO Hp]
  · isplitl [Hb]; · iexact Hb
    isplitl [Hc]; · iapply (creds c); iexact Hc
    isplitl [HO]; · iexact HO
    iexists _; iexact Hp
  isplitl [Hs] <;> iassumption

theorem bar_dev : (bigSep barCells fun g => semVal g 0 : sProp 𝕄) = bigSep Finset.univ fun c : Dev nD => semVal (barCell c) 0 :=
  bigSep_map _

theorem init_devices :
    (bigSep Finset.univ fun c : Dev nD => iprop(unscopedBufs c (fun b => m ((c : Thread nD τ).loc b)) ∗ unscopedSems0 c
        ∗ owes (c : Thread nD τ) (owedAt c 0) ∅ ∗ Pipeline.launchCred (fun d => owedAt d 0) c ∗ prngReg c (ρ c) ∗ G (F := F) c))
      ⊢ iprop((bigSep Finset.univ fun c : Dev nD => bundle m c) ∗ (bigSep barCells fun g => semVal g 0) ∗ BI.own (ER (launchOf barCells ownCells talkToks))) := by
  refine (bigSep_mono fun c _ => init_device m ρ c).trans ?_
  rw [bigSep_sep', bigSep_sep', bar_dev]
  unfold G
  rw [bigSep_parked]
  exact BI.Entails.refl _

theorem init :
    iprop((bigSep Finset.univ fun c : Dev nD => iprop(unscopedBufs c (fun b => m ((c : Thread nD τ).loc b)) ∗ unscopedSems0 c
        ∗ owes (c : Thread nD τ) (owedAt c 0) ∅ ∗ Pipeline.launchCred (fun d => owedAt d 0) c ∗ prngReg c (ρ c) ∗ G (F := F) c)) ∗ levAts L lv)
      ⊢ |={Set.univ}=> bigSep Finset.univ (T₀ m) := by
  iintro ⟨H, -⟩
  ihave H := (init_devices m ρ) $$ H
  icases H with ⟨Hbun, Hv, Hu⟩
  imod (Rounds.fund_launch ER (talkRd (commO m) (commL m)) disjoint_cells (fun g _ h => h) talkToks) $$ [Hv Hu] with ⟨%κ, -, #Hinv, #Hr, Hat, Hopen, Htok⟩
  · isplitl [Hv] <;> iassumption
  imodintro
  iapply (bigSep_with_persistent (R := records m κ) (Φ := fun c : Dev nD => iprop(dealt (F := F) c ∗ bundle m c)) fun c _ => T₀_intro m κ c)
  isplitr
  · unfold records
    isplitr <;> iassumption
  iapply (Entails.of_eq (bigSep_sep' _ _ _).symm)
  isplitr [Hbun]
  · iapply (dealt_join (F := F))
    isplitl [Htok]
    · iapply (toks_swap (F := F))
      iapply (Entails.of_eq (toks_eq (F := F)))
      iexact Htok
    isplitl [Hat] <;> iassumption
  iexact Hbun

/-! ## The run -/

def Tₙ (c : Dev nD) : sProp 𝕄 := iprop(StableHlo.held (c : Thread nD τ) bufs (V2 m c) ∗ semVal (barCell c) 0)

/-- What the end of the run says of device `c`. -/
def EndsAt (c : Dev nD) (s : MemSt nD τ sig (Elt F)) : Prop :=
  (s.mem ((c : Thread nD τ).loc main_arg0) = V2 m c main_arg0 ∧ s.mem ((c : Thread nD τ).loc main_arg1) = V2 m c main_arg1
    ∧ s.mem ((c : Thread nD τ).loc main_arg2) = V2 m c main_arg2 ∧ s.mem ((c : Thread nD τ).loc main_v3) = V2 m c main_v3)
    ∧ s.sem (barCell c) = 0

set_option backward.isDefEq.respectTransparency.types false in
/-- From any memory with zero counters, every weakly fair execution of the program on the eight devices terminates; every final
    state has the arguments unchanged, `outV` as the result of every device, and every counter zero. -/
theorem run_main : θ_run defs (onTc (τ := τ) (main (F := F))) (⟨m, fun _ => 0, ρ⟩)
    (fun r => (∀ c : Dev nD, r.2.mem ((c : Thread nD τ).loc main_v3) = outV m c
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := fun d => owedAt d 0) (hL := L_of_ne) (G := G) (u₀ := u₀ (F := F))
    (hu₀ := by
      unfold u₀ G
      iintro Hu
      ihave H := (ownU_pair _ _) $$ Hu
      icases H with ⟨HP, HX⟩
      imodintro
      isplitl [HP]; · iexact HP
      rw [bigSep_parked]; iexact HX)
    (T₀ := T₀ m) (Tₙ := Tₙ m)
    (hch := by
      refine ⟨fun c => reg_pre m c, fun c => reg_post m c, fun c => ?_⟩
      show iprop(StableHlo.held (c : Thread nD τ) bufs (V2 m c) ∗ after1 (F := F) c) ⊢ _
      unfold after1 Tₙ
      iintro ⟨Hh, Hb, HO⟩
      isplitr [HO]
      · isplitl [Hh] <;> iassumption
      iexact HO)
    (hinit := init m ρ)
    (QY := EndsAt m)
    (hfin := fun c s' => by
      dsimp only [Tₙ]; rw [bufs_eq]
      iintro ⟨⟨⟨H0, H1, H2, -, -, H3⟩, Hb⟩, HSI⟩
      icombine HSI H0 gives %h0
      icombine HSI H1 gives %h1
      icombine HSI H2 gives %h2
      icombine HSI H3 gives %h3
      icombine HSI Hb gives %hb
      imodintro
      isplitr
      · ipureintro
        exact ⟨⟨Buf.eq_of_forall_mem_univ h0, Buf.eq_of_forall_mem_univ h1, Buf.eq_of_forall_mem_univ h2, Buf.eq_of_forall_mem_univ h3⟩,
          by simpa using hb⟩
      iexact HSI)
    (hQ := fun s h hs => ⟨fun c => by
        obtain ⟨⟨h0, h1, h2, h3⟩, -⟩ := h c
        rw [V2_arg0] at h0; rw [V2_arg1] at h1; rw [V2_arg2] at h2; rw [V2_out] at h3
        exact ⟨h3, h0, h1, h2⟩,
      sem_eq_zero hs fun c sm hsm => by
        obtain rfl := unscoped_bar sm hsm
        exact (h c).2⟩)

end Cert.KernelIdeal.Proof

end
-- ==== Proof.Value.Softmax.lean ====
/-
# Softmax over the extended reals

A weighted mean with weights `exp (s x - M) / ∑ exp (s - M)`, `M` the greatest score, is the one with weights `exp (s x)`, divided
once at the end, where the scores are real. The values may be infinite.
-/
module

public import Idealize.ShloMosaic.PureOps.Ideal.Laws

@[expose] public section

noncomputable section

namespace Cert.Value

open Idealize.ShloMosaic

/-- An extended real that is a real number. -/
def IsReal (x : EReal) : Prop := ∃ r : ℝ, x = (r : EReal)

theorem IsReal.mul {x y : EReal} : IsReal x → IsReal y → IsReal (x * y)
  | ⟨a, ha⟩, ⟨b, hb⟩ => ⟨a * b, by rw [ha, hb, EReal.coe_mul]⟩
theorem IsReal.add {x y : EReal} : IsReal x → IsReal y → IsReal (x + y)
  | ⟨a, ha⟩, ⟨b, hb⟩ => ⟨a + b, by rw [ha, hb, EReal.coe_add]⟩
theorem IsReal.sum {ι : Type} (s : Finset ι) (f : ι → EReal) (h : ∀ i ∈ s, IsReal (f i)) : IsReal (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

theorem sum_coe {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A real factor that is not negative moves into a sum, whatever the terms. -/
theorem sum_mul_real {ι : Type} (s : Finset ι) (f : ι → EReal) (r : ℝ) (hr : 0 ≤ r) : (∑ i ∈ s, f i) * (r : EReal) = ∑ i ∈ s, f i * (r : EReal) := by
  classical
  induction s using Finset.induction_on with
  | empty => simp
  | insert a s ha ih =>
    rw [Finset.sum_insert ha, Finset.sum_insert ha, EReal.right_distrib_of_nonneg_of_ne_top (by exact_mod_cast hr) (EReal.coe_ne_top r), ih]

/-- The greatest of finitely many reals is one of them. -/
theorem fold_max_real {n : ℕ} (f : Fin (n + 1) → EReal) (h : ∀ i, IsReal (f i)) : IsReal (Finset.univ.fold max ⊥ f) := by
  obtain ⟨i, _, hi⟩ := Finset.exists_mem_eq_sup Finset.univ ⟨0, Finset.mem_univ _⟩ f
  have e : Finset.univ.fold max ⊥ f = f i := hi
  rw [e]
  exact h i

/-- Softmax's weighted mean, divided at the end. -/
theorem softmax_mean {n : ℕ} (s v : Fin (n + 1) → EReal) (hs : ∀ i, IsReal (s i)) :
    ∑ x, v x * Ideal.div (Ideal.exp (s x - Finset.univ.fold max ⊥ s)) (∑ y, Ideal.exp (s y - Finset.univ.fold max ⊥ s))
      = Ideal.div (∑ x, Ideal.exp (s x) * v x) (∑ x, Ideal.exp (s x)) := by
  obtain ⟨M, hM⟩ := fold_max_real s hs
  choose f hf using hs
  rw [hM]
  simp only [hf, ← EReal.coe_sub, Ideal.exp_coe]
  rw [sum_coe, sum_coe]
  have hL : 0 < ∑ x, Real.exp (f x) := Finset.sum_pos (fun i _ => Real.exp_pos _) ⟨0, Finset.mem_univ _⟩
  have hP : ∑ x, Real.exp (f x - M) = (∑ x, Real.exp (f x)) * Real.exp (-M) := by
    rw [Finset.sum_mul]
    exact Finset.sum_congr rfl fun x _ => by rw [← Real.exp_add, sub_eq_add_neg]
  have hP0 : ∑ x, Real.exp (f x - M) ≠ 0 := by rw [hP]; exact (mul_pos hL (Real.exp_pos _)).ne'
  rw [Ideal.div_coe hL.ne', sum_mul_real _ _ _ (one_div_pos.mpr hL).le]
  refine Finset.sum_congr rfl fun x _ => ?_
  rw [Ideal.div_coe hP0, ← EReal.coe_mul, mul_comm ((Real.exp (f x) : ℝ) : EReal), mul_assoc, ← EReal.coe_mul]
  congr 2
  rw [hP, sub_eq_add_neg, Real.exp_add]
  have := (Real.exp_pos (-M)).ne'
  field_simp

end Cert.Value

end
-- ==== Proof.Value.Finite.lean ====
/-
# The precondition

What `finite_qk` says of one device's blocks: every entry of Q and of K is a real number.
-/
module

public import proofs.«01_k».proof.Pre_finite_qk_KernelIdeal
public import proofs.«01_k».proof.Pre_finite_qk_ReferenceIdeal
public import proofs.«01_k».proof.Proof.Value.Softmax
public import Idealize.ShloMosaic.Lib.ReduceAll
public import Idealize.ShloMosaic.Lib.Affine
public import Idealize.ShloMosaic.Lib.Pointwise

@[expose] public section

set_option maxRecDepth 16384

noncomputable section

namespace Cert.Value

open Idealize.ShloMosaic Idealize.ShloMosaic.TcCoe

theorem facts_pre_kernel : Cert.Pre_finite_qk_KernelIdeal.Facts where
  bcast_S_S4x32x8x128 := by decide
  reducesTo_S4x32x8x128_S_d0_1_2_3 := by decide
  h_S_ := by decide
  bcast_S_S4x4096x8x128 := by decide
  reducesTo_S4x4096x8x128_S_d0_1_2_3 := by decide
theorem facts_pre_reference : Cert.Pre_finite_qk_ReferenceIdeal.Facts where
  bcast_S_S4x32x8x128 := by decide
  reducesTo_S4x32x8x128_S_d0_1_2_3 := by decide
  h_S_ := by decide
  bcast_S_S4x8192x8x128 := by decide
  reducesTo_S4x8192x8x128_S_d0_1_2_3 := by decide

theorem inf_bf16 : Ideal.ofBits .bf16 0x7F80#16 = (⊤ : EReal) := by simp [Ideal.ofBits, Ideal.ieee]

/-- An absolute value below infinity is a real number's. -/
theorem isReal_of_abs (x : EReal) (h : Ideal.cmp .olt (max x (-x)) ⊤ = 1#1) : IsReal x := by
  have hlt : max x (-x) < ⊤ := by
    by_contra hn
    simp [Ideal.cmp, hn] at h
  induction x with
  | bot => simp at hlt
  | top => simp at hlt
  | coe r => exact ⟨r, rfl⟩

open Cert.Pre_finite_qk_KernelIdeal in
/-- The precondition's meaning. -/
theorem real_of_pre [hp : Facts] (q : FVec Ideal S4x32x8x128 .bf16) (k v : FVec Ideal S4x4096x8x128 .bf16)
    (h : fn (F := Ideal) q k v = fun _ => 1#1) : (∀ i, IsReal (q i)) ∧ ∀ i, IsReal (k i) := by
  haveI : Subsingleton S_.Idx := ⟨fun a b => funext fun x => x.elim0⟩
  have h0 := congrFun h ix0
  dsimp only [fn] at h0
  obtain ⟨h1, h2⟩ := IntOp.andi_eq_one.mp h0
  constructor
  · intro i
    have e := Host.reduce_andi_all _ _ _ _ _ h1 i
    refine isReal_of_abs (q i) ?_
    rw [← inf_bf16]
    exact e
  · intro i
    have e := Host.reduce_andi_all _ _ _ _ _ h2 i
    refine isReal_of_abs (k i) ?_
    rw [← inf_bf16]
    exact e

end Cert.Value

end
-- ==== Proof.Frames.lean ====
/-
# The frames

Each program's run with the values dropped, and the named constant.
-/
module
public import proofs.«01_k».proof.Defs
public import proofs.«01_k».proof.Proof.Kernel.Launch
public import proofs.«01_k».proof.Proof.KernelIdeal.Launch
public import proofs.«01_k».proof.Proof.Gen.ReferenceIdeal.Run
public import proofs.«01_k».proof.Proof.Value.Finite

@[expose] public section

noncomputable section

namespace Cert.Proof

open Idealize.ShloMosaic Idealize.ShloMosaic.TcCoe Idealize.SL.Sem

theorem frame_kernel : Cert.quiescent_Kernel (hKernel := Cert.Kernel.Gen.facts) := fun m g _ =>
  (θ_run _ _ _).mono (fun _ h => ⟨fun c => (h.1 c).2, h.2⟩) (Cert.Kernel.Proof.run_main (F := Bits) m g)

theorem frame_kernelIdeal : Cert.quiescent_KernelIdeal (hKernelIdeal := Cert.KernelIdeal.Gen.facts) := fun m g _ =>
  (θ_run _ _ _).mono (fun _ h => ⟨fun c => (h.1 c).2, h.2⟩) (Cert.KernelIdeal.Proof.run_main (F := Ideal) m g)

theorem frame_referenceIdeal : Cert.quiescent_ReferenceIdeal (hReferenceIdeal := Cert.ReferenceIdeal.Gen.facts) := fun m g _ =>
  (θ_run _ _ _).mono (fun r h => ⟨fun c => (h c).2, sem_eq_zero_of_no_sems (by decide) r.2⟩) (Cert.ReferenceIdeal.Value.run (F := Ideal) m g)

/-- The same two where the precondition holds. -/
theorem frame_kernelIdeal_pre : Cert.quiescent_KernelIdeal_pre_finite_qk_KernelIdeal (hKernelIdeal := Cert.KernelIdeal.Gen.facts)
    (hPre_finite_qk_KernelIdeal := Cert.Value.facts_pre_kernel) := fun m g _ =>
  (θ_run _ _ _).mono (fun _ h => ⟨fun c => (h.1 c).2, h.2⟩) (Cert.KernelIdeal.Proof.run_main (F := Ideal) m g)
theorem frame_referenceIdeal_pre : Cert.quiescent_ReferenceIdeal_pre_finite_qk_ReferenceIdeal (hReferenceIdeal := Cert.ReferenceIdeal.Gen.facts)
    (hPre_finite_qk_ReferenceIdeal := Cert.Value.facts_pre_reference) := fun m g _ =>
  (θ_run _ _ _).mono (fun r h => ⟨fun c => (h c).2, sem_eq_zero_of_no_sems (by decide) r.2⟩) (Cert.ReferenceIdeal.Value.run (F := Ideal) m g)

theorem preserves : Cert.preserves_Kernel_KernelIdeal := IdealRules.named_const.statement _ _ _ _ _ rfl

end Cert.Proof

end
-- ==== Proof.Value.Block.lean ====
/-
# One group of heads against one block of keys

The mask, the weights, and what one grid point adds to a group's two accumulators, each read at an index over the extended reals.
A group's rows are numbered `4 * query + head` and its columns `4 * key + head`; only where the two heads agree is a weight not zero.
-/
module

public import proofs.«01_k».proof.Proof.KernelIdeal.Values
public import Idealize.ShloMosaic.Lib.Pointwise

@[expose] public section

set_option maxRecDepth 16384

noncomputable section

namespace Cert.Value

open Idealize.ShloMosaic Idealize.ShloMosaic.TcCoe
open Cert.KernelIdeal Cert.KernelIdeal.Gen Cert.KernelIdeal.Proof

/-- The remainder by four of a word, as the kernel takes it. -/
def rem4 (w : BitVec 32) : BitVec 32 :=
  Scalar.select
    (IntOp.andi (IntOp.xori (IntOp.cmpi .slt (IntOp.remsi .vector w (Scalar.select (Scalar.cmpi .eq 4#32 0#32) 1#32 4#32)) 0#32)
        (Scalar.cmpi .slt (Scalar.select (Scalar.cmpi .eq 4#32 0#32) 1#32 4#32) 0#32))
      (IntOp.cmpi .ne (IntOp.remsi .vector w (Scalar.select (Scalar.cmpi .eq 4#32 0#32) 1#32 4#32)) 0#32))
    (IntOp.addi (IntOp.remsi .vector w (Scalar.select (Scalar.cmpi .eq 4#32 0#32) 1#32 4#32)) (Scalar.select (Scalar.cmpi .eq 4#32 0#32) 1#32 4#32))
    (IntOp.remsi .vector w (Scalar.select (Scalar.cmpi .eq 4#32 0#32) 1#32 4#32))

theorem rem4_ofNat : ∀ n : Fin 4096, rem4 (BitVec.ofNat 32 n.val) = BitVec.ofNat 32 (n.val % 4) := by
  decide +kernel

/-- Whether two remainders agree, as a one-bit word. -/
theorem rem4_eq : ∀ a b : Fin 4, IntOp.cmpi .eq (BitVec.ofNat 32 a.val) (BitVec.ofNat 32 b.val) = if a = b then 1#1 else 0#1 := by
  decide +kernel

/-- The mask's named constant is minus infinity. -/
theorem mask_bot : (Named.named (F := Ideal) κ "mask" 0xCE6E6B28#32 : Ideal .f32) = (⊥ : EReal) :=
  IdealRules.named_const.ideal_named_scalar κ "mask" _ _ rfl

theorem pay78_at (r : Fin 128) (c : Fin 4096) : k0_pay78 (ix2 r c) = BitVec.ofNat 32 (r.val % 4) := by
  pointwise [k0_pay78]
  exact rem4_ofNat ⟨r.val, by omega⟩

/-- The mask at a row and a column. -/
theorem mask_at (r : Fin 128) (c : Fin 4096) :
    (k0_pay79 (F := Ideal) k0_pay78 colNo 4#32 (ix2 r c) : EReal) = if r.val % 4 = c.val % 4 then 0 else ⊥ := by
  have h1 := pay78_at r c
  have h2 := rem4_ofNat c
  unfold rem4 at h2
  have h3 := rem4_eq ⟨r.val % 4, Nat.mod_lt _ (by decide)⟩ ⟨c.val % 4, Nat.mod_lt _ (by decide)⟩
  pointwise [k0_pay79, colNo]
  rw [h2, h1, h3, mask_bot]
  by_cases h : r.val % 4 = c.val % 4
  · rw [if_pos (Fin.ext h), if_pos h]; rfl
  · rw [if_neg fun e => h (congrArg Fin.val e), if_neg h]; rfl

/-- The scale of the scores. -/
def scl : EReal := Ideal.ofBits .f32 0x3DB504F3#32

/-- The head of a row of a group, and its query. -/
def hd (r : Fin 128) : Fin 4 := ⟨r.val % 4, Nat.mod_lt _ (by decide)⟩
def qy (r : Fin 128) : Fin 32 := ⟨r.val / 4, by omega⟩

/-- The weight of a key of a block for a row of a group. -/
def wt (q : Vec Ideal S1x32x4x128 .bf16) (k : Vec Ideal S1x1024x4x128 .bf16) (r : Fin 128) (n : Fin 1024) : EReal :=
  Ideal.exp ((∑ x : Fin 128, q (ix4 0 (qy r) (hd r) x) * k (ix4 0 n (hd r) x)) * scl)

/-- The weights as the kernel lays them out: those of other heads' columns are zero. -/
theorem pay81_at (q : Vec Ideal S1x32x4x128 .bf16) (k : Vec Ideal S1x1024x4x128 .bf16) (r : Fin 128) (c : Fin 4096) :
    (k0_pay81 (F := Ideal) k0_pay78 colNo 4#32 q k (ix2 r c) : EReal)
      = if r.val % 4 = c.val % 4 then wt q k r ⟨c.val / 4, by omega⟩ else 0 := by
  have hm := mask_at r c
  pointwise [k0_pay81]
  rw [hm]
  by_cases h : r.val % 4 = c.val % 4
  · rw [if_pos h, if_pos h, add_zero]
    unfold wt
    have e : (⟨c.val % 4, Nat.mod_lt _ (by decide)⟩ : Fin 4) = hd r := Fin.ext h.symm
    rw [← e]
    congr 2
    refine Finset.sum_congr rfl fun x _ => ?_
    congr 2
    exact congrArg (fun y => ix4 _ _ y x) (Fin.ext h)
  · rw [if_neg h, if_neg h, EReal.add_bot]
    rfl

/-- A sum over a group's columns that meets one head's only is one over the block's keys. -/
theorem sum_cols (r : Fin 128) (f : Fin 1024 → Fin 4 → EReal) (g : Fin 4096 → EReal)
    (h1 : ∀ c : Fin 4096, r.val % 4 = c.val % 4 → g c = f ⟨c.val / 4, by omega⟩ ⟨c.val % 4, Nat.mod_lt _ (by decide)⟩)
    (h0 : ∀ c : Fin 4096, r.val % 4 ≠ c.val % 4 → g c = 0) :
    ∑ c, g c = ∑ n : Fin 1024, f n (hd r) := by
  symm
  refine Finset.sum_of_injOn (fun n : Fin 1024 => (⟨4 * n.val + r.val % 4, by omega⟩ : Fin 4096)) ?_ (fun _ _ => Finset.mem_coe.mpr (Finset.mem_univ _)) ?_ ?_
  · intro a _ b _ h
    have := congrArg Fin.val h
    exact Fin.ext (by simpa using this)
  · intro c _ hc
    refine h0 c fun h => hc ⟨⟨c.val / 4, by omega⟩, Finset.mem_coe.mpr (Finset.mem_univ _), Fin.ext ?_⟩
    show 4 * (c.val / 4) + r.val % 4 = c.val
    omega
  · intro n _
    rw [h1 _ (by show r.val % 4 = (4 * n.val + r.val % 4) % 4; omega)]
    congr 1
    · exact Fin.ext (by show n.val = (4 * n.val + r.val % 4) / 4; omega)
    · exact Fin.ext (by show r.val % 4 = (4 * n.val + r.val % 4) % 4; omega)

theorem addO_at (q : Vec Ideal S1x32x4x128 .bf16) (k v : Vec Ideal S1x1024x4x128 .bf16) (a : Vec Ideal S1x128x128 .f32) (r d : Fin 128) :
    (addO q k v a (ix3 0 r d) : EReal) = a (ix3 0 r d) + ∑ n : Fin 1024, wt q k r n * v (ix4 0 n (hd r) d) := by
  have hp := pay81_at q k r
  pointwise [addO, k0_pay84, k0_pay83, k0_pay80]
  congr 1
  refine sum_cols r (fun n h => wt q k r n * v (ix4 0 n h d)) _ (fun c h => ?_) fun c h => ?_
  · rw [hp, if_pos h]
  · rw [hp, if_neg h, zero_mul]

theorem addL_at (q : Vec Ideal S1x32x4x128 .bf16) (k : Vec Ideal S1x1024x4x128 .bf16) (a : Vec Ideal S1x128x1 .f32) (r : Fin 128) :
    (addL q k a (ix3 0 r 0) : EReal) = a (ix3 0 r 0) + ∑ n : Fin 1024, wt q k r n := by
  have hp := pay81_at q k r
  pointwise [addL, k0_pay85, k0_pay82]
  congr 1
  refine sum_cols r (fun n _ => wt q k r n) _ (fun c h => ?_) fun c h => ?_
  · rw [hp, if_pos h]
  · rw [hp, if_neg h]

/-! ## Both groups at once -/

/-- The head that row `r` of group `g` stands for. -/
def head (g : Fin 2) (r : Fin 128) : Fin 8 := ⟨4 * g.val + r.val % 4, by omega⟩

/-- The weight of a key for a row, in terms of the point's whole blocks. -/
def wtB (q : QBlk Ideal) (k : KBlk Ideal) (g : Fin 2) (r : Fin 128) (n : Fin 1024) : EReal :=
  Ideal.exp ((∑ x : Fin 128, (q (ix4 0 (qy r) (head g r) x) * k (ix4 0 n (head g r) x) : EReal)) * scl)

theorem grpQ_at (g : Fin 2) (q : QBlk Ideal) (a : Fin 32) (r x : Fin 128) : grpQ g q (ix4 0 a (hd r) x) = q (ix4 0 a (head g r) x) := by
  unfold grpQ
  congr 1
  funext i
  refine Fin.ext ?_
  fin_cases i
  · rfl
  · show 0 + 1 * a.val = a.val; omega
  · show 4 * g.val + 1 * (r.val % 4) = 4 * g.val + r.val % 4; omega
  · show 0 + 1 * x.val = x.val; omega
theorem grpK_at (g : Fin 2) (k : KBlk Ideal) (n : Fin 1024) (r x : Fin 128) : grpK g k (ix4 0 n (hd r) x) = k (ix4 0 n (head g r) x) := by
  unfold grpK
  congr 1
  funext i
  refine Fin.ext ?_
  fin_cases i
  · rfl
  · show 0 + 1 * n.val = n.val; omega
  · show 4 * g.val + 1 * (r.val % 4) = 4 * g.val + r.val % 4; omega
  · show 0 + 1 * x.val = x.val; omega
theorem grpO_at (g : Fin 2) (a : OAcc Ideal) (r d : Fin 128) : grpO g a (ix3 0 r d) = a (ix3 g r d : S2x128x128.Idx) := by
  unfold grpO
  congr 1
  funext i
  refine Fin.ext ?_
  fin_cases i
  · show g.val + 1 * 0 = g.val; omega
  · show 0 + 1 * r.val = r.val; omega
  · show 0 + 1 * d.val = d.val; omega
theorem grpL_at (g : Fin 2) (a : LAcc Ideal) (r : Fin 128) : grpL g a (ix3 0 r 0) = a (ix3 g r 0 : S2x128x1.Idx) := by
  unfold grpL
  congr 1
  funext i
  refine Fin.ext ?_
  fin_cases i
  · show g.val + 1 * 0 = g.val; omega
  · show 0 + 1 * r.val = r.val; omega
  · rfl

theorem wt_grp (q : QBlk Ideal) (k : KBlk Ideal) (g : Fin 2) (r : Fin 128) (n : Fin 1024) : wt (grpQ g q) (grpK g k) r n = wtB q k g r n := by
  unfold wt wtB
  congr 2
  refine Finset.sum_congr rfl fun x _ => ?_
  rw [grpQ_at, grpK_at]

/-- An accumulator's entry, as an extended real. -/
def rdO (a : OAcc Ideal) (g : Fin 2) (r d : Fin 128) : EReal := a (ix3 g r d : S2x128x128.Idx)
def rdL (a : LAcc Ideal) (g : Fin 2) (r : Fin 128) : EReal := a (ix3 g r 0 : S2x128x1.Idx)

/-- One grid point, at a row and a column of a group's accumulator. -/
theorem stepO_at (q : QBlk Ideal) (k v : KBlk Ideal) (a : OAcc Ideal) (g : Fin 2) (r d : Fin 128) :
    rdO (stepO q k v a) g r d = rdO a g r d + ∑ n : Fin 1024, wtB q k g r n * v (ix4 0 n (head g r) d) := by
  refine (addO_at (grpQ g q) (grpK g k) (grpK g v) (grpO g a) r d).trans ?_
  rw [grpO_at]
  refine congrArg (rdO a g r d + ·) (Finset.sum_congr rfl fun n _ => ?_)
  rw [wt_grp, grpK_at]
theorem stepL_at (q : QBlk Ideal) (k : KBlk Ideal) (a : LAcc Ideal) (g : Fin 2) (r : Fin 128) :
    rdL (stepL q k a) g r = rdL a g r + ∑ n : Fin 1024, wtB q k g r n := by
  refine (addL_at (grpQ g q) (grpK g k) (grpL g a) r).trans ?_
  rw [grpL_at]
  exact congrArg (rdL a g r + ·) (Finset.sum_congr rfl fun n _ => wt_grp q k g r n)
theorem zeroO_at (g : Fin 2) (r d : Fin 128) : rdO (k0_pay76 (F := Ideal)) g r d = 0 := by
  unfold rdO; pointwise [k0_pay76]
theorem zeroL_at (g : Fin 2) (r : Fin 128) : rdL (k0_pay77 (F := Ideal)) g r = 0 := by
  unfold rdL; pointwise [k0_pay77]

end Cert.Value

end
-- ==== Proof.Value.Sums.lean ====
/-
# What a device's accumulators hold after a batch entry's last chunk

The four chunks add up to one sum over the device's 4096 keys, in terms of the device's argument arrays.
-/
module

public import proofs.«01_k».proof.Proof.Value.Block
public import proofs.«01_k».proof.Proof.KernelIdeal.Data
public import Idealize.ShloMosaic.Lib.Pipeline.ValueKit.Point

@[expose] public section

set_option maxRecDepth 16384

noncomputable section

namespace Cert.Value

open Idealize.ShloMosaic Idealize.ShloMosaic.TcCoe
open Cert.KernelIdeal Cert.KernelIdeal.Gen Cert.KernelIdeal.Proof

variable (m : (ℓ : Loc nD τ sig) → Buf (Elt Ideal) ℓ)

/-- Device `c`'s blocks of Q, K and V at an index, as extended reals. -/
def argQ (c : Dev nD) (b : Fin 4) (n : Fin 32) (h : Fin 8) (x : Fin 128) : EReal :=
  m ((c : Thread nD τ).loc main_arg0) (ix4 b n h x : S4x32x8x128.Idx)
def argK (c : Dev nD) (b : Fin 4) (k : Fin 4096) (h : Fin 8) (x : Fin 128) : EReal :=
  m ((c : Thread nD τ).loc main_arg1) (ix4 b k h x : S4x4096x8x128.Idx)
def argV (c : Dev nD) (b : Fin 4) (k : Fin 4096) (h : Fin 8) (x : Fin 128) : EReal :=
  m ((c : Thread nD τ).loc main_arg2) (ix4 b k h x : S4x4096x8x128.Idx)

/-- The weight of key `k` of device `c` for a query of a head. -/
def wtD (c : Dev nD) (b : Fin 4) (h : Fin 8) (n : Fin 32) (k : Fin 4096) : EReal :=
  Ideal.exp ((∑ x : Fin 128, argQ m c b n h x * argK m c b k h x) * scl)

theorem index_0 : ∀ t : Fin cfg0.N, win0_0.index t = ![t.val / 4, 0, 0, 0] := by decide +kernel
theorem index_1 : ∀ t : Fin cfg0.N, win0_1.index t = ![t.val / 4, t.val % 4, 0, 0] := by decide +kernel
theorem index_2 : ∀ t : Fin cfg0.N, win0_2.index t = ![t.val / 4, t.val % 4, 0, 0] := by decide +kernel

theorem ptN_at (b j : Fin 4) : (ptN (4 * b.val + j.val)).val = 4 * b.val + j.val := Nat.mod_eq_of_lt (by omega)

/-- Key `n` of chunk `j`. -/
def key (j : Fin 4) (n : Fin 1024) : Fin 4096 := ⟨1024 * j.val + n.val, by omega⟩

theorem qB_at (c : Dev nD) (b j : Fin 4) (n : Fin 32) (h : Fin 8) (x : Fin 128) :
    (qB m c (4 * b.val + j.val) (ix4 0 n h x) : EReal) = argQ m c b n h x := by
  have hp := ptN_at b j
  unfold qB argQ
  blk_ext [iblk, V, index_0, hp]
theorem kB_at (c : Dev nD) (b j : Fin 4) (n : Fin 1024) (h : Fin 8) (x : Fin 128) :
    (kB m c (4 * b.val + j.val) (ix4 0 n h x) : EReal) = argK m c b (key j n) h x := by
  have hp := ptN_at b j
  unfold kB argK key
  blk_ext [iblk, V, index_1, hp]
theorem vB_at (c : Dev nD) (b j : Fin 4) (n : Fin 1024) (h : Fin 8) (x : Fin 128) :
    (vB m c (4 * b.val + j.val) (ix4 0 n h x) : EReal) = argV m c b (key j n) h x := by
  have hp := ptN_at b j
  unfold vB argV key
  blk_ext [iblk, V, index_2, hp]

theorem wtB_at (c : Dev nD) (b j : Fin 4) (g : Fin 2) (r : Fin 128) (n : Fin 1024) :
    wtB (qB m c (4 * b.val + j.val)) (kB m c (4 * b.val + j.val)) g r n = wtD m c b (head g r) (qy r) (key j n) := by
  unfold wtB wtD
  congr 2
  refine Finset.sum_congr rfl fun x _ => ?_
  rw [qB_at, kB_at]

/-- A sum over a device's keys, chunk by chunk. -/
theorem sum_keys (f : Fin 4096 → EReal) :
    ∑ k, f k = ∑ n, f (key 0 n) + ∑ n, f (key 1 n) + ∑ n, f (key 2 n) + ∑ n, f (key 3 n) := by
  refine (Fin.sum_univ_add (a := 1024 + 1024 + 1024) (b := 1024) f).trans ?_
  rw [Fin.sum_univ_add (a := 1024 + 1024) (b := 1024), Fin.sum_univ_add (a := 1024) (b := 1024)]
  refine congrArg (· + _) (congrArg (· + _) (congrArg (· + _) (Finset.sum_congr rfl fun n _ => congrArg f (Fin.ext ?_))))
  show n.val = 1024 * 0 + n.val
  omega

theorem oAt_one (c : Dev nD) (b j : Fin 4) (g : Fin 2) (r d : Fin 128) (a : OAcc Ideal) :
    rdO (stepO (qB m c (4 * b.val + j.val)) (kB m c (4 * b.val + j.val)) (vB m c (4 * b.val + j.val)) a) g r d
      = rdO a g r d + ∑ n, wtD m c b (head g r) (qy r) (key j n) * argV m c b (key j n) (head g r) d := by
  rw [stepO_at]
  refine congrArg (rdO a g r d + ·) (Finset.sum_congr rfl fun n _ => ?_)
  rw [wtB_at, vB_at]
theorem lAt_one (c : Dev nD) (b j : Fin 4) (g : Fin 2) (r : Fin 128) (a : LAcc Ideal) :
    rdL (stepL (qB m c (4 * b.val + j.val)) (kB m c (4 * b.val + j.val)) a) g r
      = rdL a g r + ∑ n, wtD m c b (head g r) (qy r) (key j n) := by
  rw [stepL_at]
  exact congrArg (rdL a g r + ·) (Finset.sum_congr rfl fun n _ => wtB_at m c b j g r n)

theorem oAt_last (c : Dev nD) (b : Fin 4) (g : Fin 2) (r d : Fin 128) :
    rdO (oAt m c (4 * b.val + 4)) g r d = ∑ k, wtD m c b (head g r) (qy r) k * argV m c b k (head g r) d := by
  rw [sum_keys, oAt_next m c (4 * b.val + 3) (by omega), oAt_next m c (4 * b.val + 2) (by omega), oAt_next m c (4 * b.val + 1) (by omega),
    oAt_first m c (4 * b.val) (by omega)]
  refine (oAt_one m c b 3 g r d _).trans ?_
  refine congrArg (· + _) ((oAt_one m c b 2 g r d _).trans ?_)
  refine congrArg (· + _) ((oAt_one m c b 1 g r d _).trans ?_)
  refine congrArg (· + _) ((oAt_one m c b 0 g r d _).trans ?_)
  rw [zeroO_at, zero_add]
theorem lAt_last (c : Dev nD) (b : Fin 4) (g : Fin 2) (r : Fin 128) :
    rdL (lAt m c (4 * b.val + 4)) g r = ∑ k, wtD m c b (head g r) (qy r) k := by
  rw [sum_keys, lAt_next m c (4 * b.val + 3) (by omega), lAt_next m c (4 * b.val + 2) (by omega), lAt_next m c (4 * b.val + 1) (by omega),
    lAt_first m c (4 * b.val) (by omega)]
  refine (lAt_one m c b 3 g r _).trans ?_
  refine congrArg (· + _) ((lAt_one m c b 2 g r _).trans ?_)
  refine congrArg (· + _) ((lAt_one m c b 1 g r _).trans ?_)
  refine congrArg (· + _) ((lAt_one m c b 0 g r _).trans ?_)
  rw [zeroL_at, zero_add]

end Cert.Value

end
-- ==== Proof.Value.Result.lean ====
/-
# What a device returns

The result at an index: the two halves' sums of weighted values, over the two halves' sums of weights.
-/
module

public import proofs.«01_k».proof.Proof.Value.Sums
public import proofs.«01_k».proof.Proof.KernelIdeal.Launch

@[expose] public section

set_option maxRecDepth 16384

noncomputable section

namespace Cert.Value

open Idealize.ShloMosaic Idealize.ShloMosaic.TcCoe
open Cert.KernelIdeal Cert.KernelIdeal.Gen Cert.KernelIdeal.Proof

variable (m : (ℓ : Loc nD τ sig) → Buf (Elt Ideal) ℓ)

/-- Device `c`'s sum of weighted values, and of weights, for a query of a head. -/
def numD (c : Dev nD) (b : Fin 4) (h : Fin 8) (n : Fin 32) (d : Fin 128) : EReal := ∑ k, wtD m c b h n k * argV m c b k h d
def denD (c : Dev nD) (b : Fin 4) (h : Fin 8) (n : Fin 32) : EReal := ∑ k, wtD m c b h n k

/-- The row of the communication buffers for a head of a batch entry. -/
def row (b : Fin 4) (h : Fin 8) : Fin 32 := ⟨b.val * 8 + h.val, by omega⟩

theorem row_head (b : Fin 4) (h : Fin 8) (n : Fin 32) : head (packG (row b h)) (packR (row b h) n) = h :=
  Fin.ext (by show 4 * ((b.val * 8 + h.val) % 8 / 4) + (4 * n.val + (b.val * 8 + h.val) % 4) % 4 = h.val; omega)
theorem row_qy (b : Fin 4) (h : Fin 8) (n : Fin 32) : qy (packR (row b h) n) = n :=
  Fin.ext (by show (4 * n.val + (b.val * 8 + h.val) % 4) / 4 = n.val; omega)
theorem row_batch (b : Fin 4) (h : Fin 8) : (row b h).val / 8 = b.val := by
  show (b.val * 8 + h.val) / 8 = b.val; omega

/-- An entry of a communication buffer, as an extended real. -/
def atO (f : OBuf Ideal) (s : Fin 2) (y n : Fin 32) (d : Fin 128) : EReal := f (ix4 s y n d : S2x32x32x128.Idx)
def atL (f : LBuf Ideal) (s : Fin 2) (y n : Fin 32) : EReal := f (ix4 s y n 0 : S2x32x32x1.Idx)

theorem commO_row (c : Dev nD) (s : Fin 2) (b : Fin 4) (h : Fin 8) (n : Fin 32) (d : Fin 128) :
    atO (commO m c) s (row b h) n d = numD m c b h n d := by
  have e := oAt_last m c b (packG (row b h)) (packR (row b h) n) d
  rw [row_head, row_qy, ← row_batch b h] at e
  exact e
theorem commL_row (c : Dev nD) (s : Fin 2) (b : Fin 4) (h : Fin 8) (n : Fin 32) :
    atL (commL m c) s (row b h) n = denD m c b h n := by
  have e := lAt_last m c b (packG (row b h)) (packR (row b h) n)
  rw [row_head, row_qy, ← row_batch b h] at e
  exact e

theorem slotO_row (f : OBuf Ideal) (s : Fin 2) (y n : Fin 32) (d : Fin 128) :
    (slotO s f (ix4 0 y n d) : EReal) = atO f s y n d := by
  unfold slotO atO
  congr 1
  funext i
  refine Fin.ext ?_
  fin_cases i
  · show s.val + 1 * 0 = s.val; omega
  · show 0 + 1 * y.val = y.val; omega
  · show 0 + 1 * n.val = n.val; omega
  · show 0 + 1 * d.val = d.val; omega
theorem slotL_row (f : LBuf Ideal) (s : Fin 2) (y n : Fin 32) :
    (slotL s f (ix4 0 y n 0) : EReal) = atL f s y n := by
  unfold slotL atL
  congr 1
  funext i
  refine Fin.ext ?_
  fin_cases i
  · show s.val + 1 * 0 = s.val; omega
  · show 0 + 1 * y.val = y.val; omega
  · show 0 + 1 * n.val = n.val; omega
  · rfl

theorem outOf_at (fo : OBuf Ideal) (fl : LBuf Ideal) (y n : Fin 32) (d : Fin 128) :
    (outOf fo fl (ix3 y n d) : EReal)
      = Ideal.div (atO fo 0 y n d + atO fo 1 y n d) (atL fl 0 y n + atL fl 1 y n) := by
  rw [← slotO_row fo 0, ← slotO_row fo 1, ← slotL_row fl 0, ← slotL_row fl 1]
  unfold outOf
  pointwise [k0_pay1, k0_pay74, k0_pay75]

/-- What device `c` returns. -/
theorem outV_at (c : Dev nD) (b : Fin 4) (n : Fin 32) (h : Fin 8) (d : Fin 128) :
    (outV m c (ix4 b n h d) : EReal)
      = Ideal.div (numD m c b h n d + numD m (pr c) b h n d) (denD m c b h n + denD m (pr c) b h n) := by
  have e : (outV m c (ix4 b n h d) : EReal) = resB m c (ix3 (row b h) n d) := by
    unfold outV row
    pointwise []
  rw [e, ← commO_row m c 0, ← commO_row m (pr c) 1, ← commL_row m c 0, ← commL_row m (pr c) 1]
  exact outOf_at _ _ _ _ _

end Cert.Value

end
-- ==== Proof.Value.Reference.lean ====
/-
# The reference at an index

Where Q and K are real, its result is the sum of the values weighted by the exponentials of the scores, over the sum of those weights.
-/
module

public import proofs.«01_k».proof.Proof.Gen.ReferenceIdeal.Run
public import proofs.«01_k».proof.Proof.Value.Softmax
public import Idealize.ShloMosaic.Lib.Pointwise

@[expose] public section

set_option maxRecDepth 16384

noncomputable section

namespace Cert.Value

open Idealize.ShloMosaic Idealize.ShloMosaic.TcCoe
open Cert.ReferenceIdeal Cert.ReferenceIdeal.Gen

/-- The arrays of the whole problem. -/
abbrev WQ : Type := S4x32x8x128.Idx → Ideal .bf16
abbrev WK : Type := S4x8192x8x128.Idx → Ideal .bf16

variable (q : WQ) (k v : WK)

/-- The reference's scores, and their exponentials from the row's maximum. -/
def refS : S4x8x32x8192.Idx → Ideal .f32 :=
  mulf (Host.dotGeneral dot_S4x32x8x128_S4x8192x8x128_S4x8x32x8192_3_3_1_1_02_02 none (extf .f32 q bitsLt_bf16_f32) (extf .f32 k bitsLt_bf16_f32)) (broadcastInDim S4x8x32x8192 ![] bcast_S_S4x8x32x8192 (constant S_ .f32 0x3DB504F3#32))
def refE : S4x8x32x8192.Idx → Ideal .f32 :=
  Host.exp (subf (refS q k) (broadcastInDim S4x8x32x8192 ![0, 1, 2, 3] bcast_S4x8x32x1_S4x8x32x8192_0_1_2_3 (broadcastInDim S4x8x32x1 ![0, 1, 2] bcast_S4x8x32_S4x8x32x1_0_1_2 (Host.reduce FloatOps.maximumf (refS q k) (constant S_ .f32 0xFF800000#32) reducesTo_S4x8x32x8192_S4x8x32_d3 h_S_))))
/-- The reference's result. -/
def refOut : S4x32x8x128.Idx → Ideal .f32 :=
  transpose S4x32x8x128 [0, 3, 1, 2] (Host.dotGeneral dot_S4x8192x8x128_S4x8x32x8192_S4x8x128x32_1_3_3_2_02_01 none (extf .f32 v bitsLt_bf16_f32) (Host.divf (refE q k) (broadcastInDim S4x8x32x8192 ![0, 1, 2, 3] bcast_S4x8x32x1_S4x8x32x8192_0_1_2_3 (broadcastInDim S4x8x32x1 ![0, 1, 2] bcast_S4x8x32_S4x8x32x1_0_1_2 (Host.reduceAdd (refE q k) (constant S_ .f32 0x00000000#32) reducesTo_S4x8x32x8192_S4x8x32_d3 h_S_))))) transposes_S4x8x128x32_S4x32x8x128_0_3_1_2

/-- The score of a key for a query of a head. -/
def score (b : Fin 4) (h : Fin 8) (n : Fin 32) (j : Fin 8192) : EReal :=
  (∑ x : Fin 128, (q (ix4 b n h x) : EReal) * (k (ix4 b j h x) : EReal)) * Ideal.ofBits .f32 0x3DB504F3#32

theorem refS_at (b : Fin 4) (h : Fin 8) (n : Fin 32) (j : Fin 8192) : (refS q k (ix4 b h n j) : EReal) = score q k b h n j := by
  unfold score
  pointwise [refS]

theorem neg_inf_f32 : Ideal.ofBits .f32 0xFF800000#32 = (⊥ : EReal) := by simp [Ideal.ofBits, Ideal.ieee]
theorem scale_real : IsReal (Ideal.ofBits .f32 0x3DB504F3#32) := by
  simp only [Ideal.ofBits, Ideal.ieee]
  split_ifs <;> first | exact ⟨_, rfl⟩ | simp_all

theorem refE_at (b : Fin 4) (h : Fin 8) (n : Fin 32) (j : Fin 8192) :
    (refE q k (ix4 b h n j) : EReal) = Ideal.exp (score q k b h n j - Finset.univ.fold max ⊥ (score q k b h n)) := by
  have hs := refS_at q k b h n
  pointwise [refE]
  simp only [hs, neg_inf_f32]

theorem score_real (hq : ∀ i, IsReal (q i)) (hk : ∀ i, IsReal (k i)) (b : Fin 4) (h : Fin 8) (n : Fin 32) (j : Fin 8192) :
    IsReal (score q k b h n j) :=
  (IsReal.sum _ _ fun x _ => (hq _).mul (hk _)).mul scale_real

/-- The reference's result, divided at the end. -/
theorem refOut_at (hq : ∀ i, IsReal (q i)) (hk : ∀ i, IsReal (k i)) (b : Fin 4) (n : Fin 32) (h : Fin 8) (d : Fin 128) :
    (refOut q k v (ix4 b n h d) : EReal)
      = Ideal.div (∑ j, Ideal.exp (score q k b h n j) * (v (ix4 b j h d) : EReal)) (∑ j, Ideal.exp (score q k b h n j)) := by
  have he := refE_at q k b h n
  refine Eq.trans ?_ (softmax_mean (n := 8191) (score q k b h n) (fun j => v (ix4 b j h d)) (score_real q k hq hk b h n))
  pointwise [refOut]
  simp only [he]

end Cert.Value

end
-- ==== Proof.Value.Equal.lean ====
/-
# The two results are one

The eight devices' blocks put back together: the two halves of the keys that a device and its partner hold are all of them, so the
two halves' sums add up to the reference's, on every device.
-/
module

public import proofs.«01_k».proof.Proof.Value.Result
public import proofs.«01_k».proof.Proof.Value.Reference
public import Idealize.ShloMosaic.Lib.Layout

@[expose] public section

set_option maxRecDepth 16384

noncomputable section

namespace Cert.Value

open Idealize.ShloMosaic Idealize.ShloMosaic.TcCoe
open Cert.KernelIdeal Cert.KernelIdeal.Gen Cert.KernelIdeal.Proof

variable (m : (ℓ : Loc nD τ sig) → Buf (Elt Ideal) ℓ)

/-- Device `c`'s share of an array cut along the keys. -/
abbrev share (c : Dev nD) (k : WK) : S4x4096x8x128.Idx → Ideal .bf16 :=
  Layout.blockN ⟨4, ![4, 4096, 8, 128]⟩ ⟨4, ![4, 8192, 8, 128]⟩ (Layout.meshBlock [2, 2, 2] ![[], [2], [], []] c) k

/-- Key `j` of half `z`. -/
def half (z : Fin 2) (j : Fin 4096) : Fin 8192 := ⟨4096 * z.val + j.val, by omega⟩
/-- The half of the keys that a device holds. -/
def zOf (c : Dev nD) : Fin 2 := ⟨c.val % 2, Nat.mod_lt _ (by decide)⟩

theorem block_1 : ∀ c : Dev nD, ((Layout.meshBlock [2, 2, 2] ![[], [2], [], []] c : (b : Fin 4) → _) 1).val = c.val % 2 := by
  decide +kernel
theorem pr_other : ∀ c : Dev nD, (zOf c = 0 ∧ zOf (pr c) = 1) ∨ (zOf c = 1 ∧ zOf (pr c) = 0) := by
  decide +kernel

theorem share_at (c : Dev nD) (k : WK) (b : Fin 4) (j : Fin 4096) (h : Fin 8) (x : Fin 128) :
    share c k (ix4 b j h x) = k (ix4 b (half (zOf c) j) h x) := by
  refine congrArg k (funext fun a => Fin.ext ?_)
  have h1 := block_1 c
  fin_cases a
  · show 0 * 4 + b.val = b.val; omega
  · show ((Layout.meshBlock [2, 2, 2] ![[], [2], [], []] c : (b : Fin 4) → _) 1).val * 4096 + j.val = 4096 * (c.val % 2) + j.val
    rw [h1]; omega
  · show 0 * 8 + h.val = h.val; omega
  · show 0 * 128 + x.val = x.val; omega

/-- A sum over all keys, half by half. -/
theorem sum_halves (f : Fin 8192 → EReal) : ∑ j, f j = ∑ j, f (half 0 j) + ∑ j, f (half 1 j) := by
  refine (Fin.sum_univ_add (a := 4096) (b := 4096) f).trans ?_
  refine congrArg (· + _) (Finset.sum_congr rfl fun j _ => congrArg f (Fin.ext ?_))
  show j.val = 4096 * 0 + j.val
  omega
/-- A device's half and its partner's are all the keys. -/
theorem sum_pair (f : Fin 8192 → EReal) (c : Dev nD) : ∑ j, f (half (zOf c) j) + ∑ j, f (half (zOf (pr c)) j) = ∑ j, f j := by
  rw [sum_halves]
  rcases pr_other c with ⟨h0, h1⟩ | ⟨h0, h1⟩
  · rw [h0, h1]
  · rw [h0, h1, add_comm]

/-- The devices hold the problem's arrays. -/
structure Holds (q : WQ) (k v : WK) : Prop where
  q : ∀ c : Dev nD, m ((c.tc : Thread nD τ).loc main_arg0) = q
  k : ∀ c : Dev nD, m ((c.tc : Thread nD τ).loc main_arg1) = share c k
  v : ∀ c : Dev nD, m ((c.tc : Thread nD τ).loc main_arg2) = share c v

variable {m} {q : WQ} {k v : WK}

theorem argQ_eq (H : Holds m q k v) (c : Dev nD) (b : Fin 4) (n : Fin 32) (h : Fin 8) (x : Fin 128) : argQ m c b n h x = q (ix4 b n h x) :=
  congrFun (H.q c) (ix4 b n h x)
theorem argK_eq (H : Holds m q k v) (c : Dev nD) (b : Fin 4) (j : Fin 4096) (h : Fin 8) (x : Fin 128) :
    argK m c b j h x = k (ix4 b (half (zOf c) j) h x) :=
  (congrFun (H.k c) (ix4 b j h x)).trans (share_at c k b j h x)
theorem argV_eq (H : Holds m q k v) (c : Dev nD) (b : Fin 4) (j : Fin 4096) (h : Fin 8) (x : Fin 128) :
    argV m c b j h x = v (ix4 b (half (zOf c) j) h x) :=
  (congrFun (H.v c) (ix4 b j h x)).trans (share_at c v b j h x)

theorem wtD_eq (H : Holds m q k v) (c : Dev nD) (b : Fin 4) (h : Fin 8) (n : Fin 32) (j : Fin 4096) :
    wtD m c b h n j = Ideal.exp (score q k b h n (half (zOf c) j)) := by
  unfold wtD score scl
  refine congrArg (fun y => Ideal.exp (y * _)) (Finset.sum_congr rfl fun x _ => ?_)
  rw [argQ_eq H, argK_eq H]

theorem num_eq (H : Holds m q k v) (c : Dev nD) (b : Fin 4) (n : Fin 32) (h : Fin 8) (d : Fin 128) :
    numD m c b h n d + numD m (pr c) b h n d = ∑ j, Ideal.exp (score q k b h n j) * (v (ix4 b j h d) : EReal) := by
  rw [← sum_pair (fun j => Ideal.exp (score q k b h n j) * (v (ix4 b j h d) : EReal)) c]
  unfold numD
  simp only [wtD_eq H, argV_eq H]
theorem den_eq (H : Holds m q k v) (c : Dev nD) (b : Fin 4) (n : Fin 32) (h : Fin 8) :
    denD m c b h n + denD m (pr c) b h n = ∑ j, Ideal.exp (score q k b h n j) := by
  rw [← sum_pair (fun j => Ideal.exp (score q k b h n j)) c]
  unfold denD
  simp only [wtD_eq H]

/-- Every device returns the reference's result. -/
theorem outV_eq (H : Holds m q k v) (hq : ∀ i, IsReal (q i)) (hk : ∀ i, IsReal (k i)) (c : Dev nD) : outV m c = refOut q k v := by
  funext i
  obtain ⟨b, n, h, d, rfl⟩ : ∃ (b : Fin 4) (n : Fin 32) (h : Fin 8) (d : Fin 128), i = ix4 b n h d := ⟨i 0, i 1, i 2, i 3, eq_ix4 i⟩
  refine (outV_at m c b n h d).trans ?_
  rw [num_eq H, den_eq H]
  exact (refOut_at q k v hq hk b n h d).symm

/-- Where every device's share is real, so is the whole. -/
theorem real_whole (k : WK) (h : ∀ (c : Dev nD) i, IsReal (share c k i)) (i) : IsReal (k i) := by
  obtain ⟨b, j, y, x, rfl⟩ : ∃ (b : Fin 4) (j : Fin 8192) (y : Fin 8) (x : Fin 128), i = ix4 b j y x := ⟨i 0, i 1, i 2, i 3, eq_ix4 i⟩
  have hj : j.val / 4096 < 2 := by omega
  have e := h ⟨j.val / 4096, by show _ < 8; omega⟩ (ix4 b ⟨j.val % 4096, Nat.mod_lt _ (by decide)⟩ y x)
  rw [share_at] at e
  have ej : half (zOf (⟨j.val / 4096, by show _ < 8; omega⟩ : Dev nD)) ⟨j.val % 4096, Nat.mod_lt _ (by decide)⟩ = j :=
    Fin.ext (by show 4096 * (j.val / 4096 % 2) + j.val % 4096 = j.val; omega)
  rwa [ej] at e

end Cert.Value

end
-- ==== Proof.Algebraic.lean ====
/-
# The value claim

Over the extended reals, from memories that hold the problem's arrays with Q and K finite, every device ends with the reference's result.
-/
module

public import proofs.«01_k».proof.Defs
public import proofs.«01_k».proof.Proof.Value.Equal
public import proofs.«01_k».proof.Proof.Value.Finite

@[expose] public section

set_option maxRecDepth 16384

noncomputable section

namespace Cert.Proof

open Idealize.ShloMosaic Idealize.ShloMosaic.TcCoe Idealize.SL.Sem Cert.Value

theorem algebraic : Cert.algebraic_KernelIdeal_ReferenceIdeal_pre_finite_qk_KernelIdeal (hKernelIdeal := Cert.KernelIdeal.Gen.facts)
    (hReferenceIdeal := Cert.ReferenceIdeal.Gen.facts) (hPre_finite_qk_KernelIdeal := facts_pre_kernel) := fun m g m' g' hpre hm => by
  have H : Holds m (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2)) :=
    ⟨fun c => (hm c).1, fun c => (hm c).2.1, fun c => (hm c).2.2⟩
  have hr := fun c => real_of_pre (hp := facts_pre_kernel) _ _ _ (hpre c)
  have hq : ∀ i, IsReal (m' (((0 : Dev Cert.ReferenceIdeal.nD).tc : Thread Cert.ReferenceIdeal.nD Cert.ReferenceIdeal.τ).loc Cert.ReferenceIdeal.main_arg0) i) := fun i => by
    have e := (hr 0).1 i
    rwa [H.q 0] at e
  have hk : ∀ i, IsReal (m' (((0 : Dev Cert.ReferenceIdeal.nD).tc : Thread Cert.ReferenceIdeal.nD Cert.ReferenceIdeal.τ).loc Cert.ReferenceIdeal.main_arg1) i) :=
    real_whole _ fun c i => by
      have e := (hr c).2 i
      rwa [H.k c] at e
  refine ⟨refOut _ _ _, (θ_run _ _ _).mono (fun _ h c => ?_) (Cert.KernelIdeal.Proof.run_main (F := Ideal) m g),
    (θ_run _ _ _).mono (fun r h => h 0) (Cert.ReferenceIdeal.Value.run (F := Ideal) m' g')⟩
  exact ⟨(h.1 c).1.trans (outV_eq H hq hk c), (h.1 c).2⟩

end Cert.Proof

end
-- ==== Proof.lean ====
/-
# The certificate

The witnesses of the programs' and predicates' stated facts, the frames, the named constant, and the value claim.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Frames
public import proofs.«01_k».proof.Proof.Algebraic

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Value.facts_pre_kernel, Cert.Value.facts_pre_reference,
    frame_kernel, frame_kernelIdeal, frame_kernelIdeal_pre, frame_referenceIdeal, frame_referenceIdeal_pre, preserves, algebraic⟩

end Cert.Proof

end
